-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_Assign (m : (ℓ : Loc Cert.Assign.nD Cert.Assign.τ Cert.Assign.sig) → Buf (Elt Bits) ℓ) : Prop :=
  True

def Pre_AssignIdeal (m : (ℓ : Loc Cert.AssignIdeal.nD Cert.AssignIdeal.τ Cert.AssignIdeal.sig) → Buf (Elt Ideal) ℓ) : Prop :=
  True

def Pre_Update [hPre_ids_in_range : Cert.Pre_ids_in_range.Facts] (m : (ℓ : Loc Cert.Update.nD Cert.Update.τ Cert.Update.sig) → Buf (Elt Bits) ℓ) : Prop :=
  ∀ c : Dev Cert.Update.nD,
    (Cert.Pre_ids_in_range.fn (F := Bits) (m ((c.tc : Thread Cert.Update.nD Cert.Update.τ).loc Cert.Update.main_arg0)) (m ((c.tc : Thread Cert.Update.nD Cert.Update.τ).loc Cert.Update.main_arg1)) (m ((c.tc : Thread Cert.Update.nD Cert.Update.τ).loc Cert.Update.main_arg2)) (m ((c.tc : Thread Cert.Update.nD Cert.Update.τ).loc Cert.Update.main_arg3))) = (fun _ => 1#1)

def Pre_UpdateIdeal [hPre_ids_in_range : Cert.Pre_ids_in_range.Facts] (m : (ℓ : Loc Cert.UpdateIdeal.nD Cert.UpdateIdeal.τ Cert.UpdateIdeal.sig) → Buf (Elt Ideal) ℓ) : Prop :=
  ∀ c : Dev Cert.UpdateIdeal.nD,
    (Cert.Pre_ids_in_range.fn (F := Ideal) (m ((c.tc : Thread Cert.UpdateIdeal.nD Cert.UpdateIdeal.τ).loc Cert.UpdateIdeal.main_arg0)) (m ((c.tc : Thread Cert.UpdateIdeal.nD Cert.UpdateIdeal.τ).loc Cert.UpdateIdeal.main_arg1)) (m ((c.tc : Thread Cert.UpdateIdeal.nD Cert.UpdateIdeal.τ).loc Cert.UpdateIdeal.main_arg2)) (m ((c.tc : Thread Cert.UpdateIdeal.nD Cert.UpdateIdeal.τ).loc Cert.UpdateIdeal.main_arg3))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0))
      ∧ r.2.sem = fun _ => 0)

def quiescent_Assign [hAssign : Cert.Assign.Facts] : Prop :=
  ∀ (m : (ℓ : Loc Cert.Assign.nD Cert.Assign.τ Cert.Assign.sig) → Buf (Elt Bits) ℓ) (g : Dev Cert.Assign.nD → PrngReg), Pre_Assign m →
    θ_run (Cert.Assign.defs (F := Bits)) (onTc (τ := Cert.Assign.τ) (Cert.Assign.main (F := Bits))) ⟨m, fun _ => 0, g⟩ (fun r => (∀ c : Dev Cert.Assign.nD,
      r.2.mem ((c.tc : Thread Cert.Assign.nD Cert.Assign.τ).loc Cert.Assign.main_arg0) = m ((c.tc : Thread Cert.Assign.nD Cert.Assign.τ).loc Cert.Assign.main_arg0)
      ∧ r.2.mem ((c.tc : Thread Cert.Assign.nD Cert.Assign.τ).loc Cert.Assign.main_arg1) = m ((c.tc : Thread Cert.Assign.nD Cert.Assign.τ).loc Cert.Assign.main_arg1))
      ∧ r.2.sem = fun _ => 0)

def quiescent_AssignIdeal [hAssignIdeal : Cert.AssignIdeal.Facts] : Prop :=
  ∀ (m : (ℓ : Loc Cert.AssignIdeal.nD Cert.AssignIdeal.τ Cert.AssignIdeal.sig) → Buf (Elt Ideal) ℓ) (g : Dev Cert.AssignIdeal.nD → PrngReg), Pre_AssignIdeal m →
    θ_run (Cert.AssignIdeal.defs (F := Ideal)) (onTc (τ := Cert.AssignIdeal.τ) (Cert.AssignIdeal.main (F := Ideal))) ⟨m, fun _ => 0, g⟩ (fun r => (∀ c : Dev Cert.AssignIdeal.nD,
      r.2.mem ((c.tc : Thread Cert.AssignIdeal.nD Cert.AssignIdeal.τ).loc Cert.AssignIdeal.main_arg0) = m ((c.tc : Thread Cert.AssignIdeal.nD Cert.AssignIdeal.τ).loc Cert.AssignIdeal.main_arg0)
      ∧ r.2.mem ((c.tc : Thread Cert.AssignIdeal.nD Cert.AssignIdeal.τ).loc Cert.AssignIdeal.main_arg1) = m ((c.tc : Thread Cert.AssignIdeal.nD Cert.AssignIdeal.τ).loc Cert.AssignIdeal.main_arg1))
      ∧ r.2.sem = fun _ => 0)

def quiescent_Update [hUpdate : Cert.Update.Facts] [hPre_ids_in_range : Cert.Pre_ids_in_range.Facts] : Prop :=
  ∀ (m : (ℓ : Loc Cert.Update.nD Cert.Update.τ Cert.Update.sig) → Buf (Elt Bits) ℓ) (g : Dev Cert.Update.nD → PrngReg), Pre_Update m →
    θ_run (Cert.Update.defs (F := Bits)) (onTc (τ := Cert.Update.τ) (Cert.Update.main (F := Bits))) ⟨m, fun _ => 0, g⟩ (fun r => (∀ c : Dev Cert.Update.nD,
      r.2.mem ((c.tc : Thread Cert.Update.nD Cert.Update.τ).loc Cert.Update.main_arg0) = m ((c.tc : Thread Cert.Update.nD Cert.Update.τ).loc Cert.Update.main_arg0)
      ∧ r.2.mem ((c.tc : Thread Cert.Update.nD Cert.Update.τ).loc Cert.Update.main_arg1) = m ((c.tc : Thread Cert.Update.nD Cert.Update.τ).loc Cert.Update.main_arg1)
      ∧ r.2.mem ((c.tc : Thread Cert.Update.nD Cert.Update.τ).loc Cert.Update.main_arg2) = m ((c.tc : Thread Cert.Update.nD Cert.Update.τ).loc Cert.Update.main_arg2)
      ∧ r.2.mem ((c.tc : Thread Cert.Update.nD Cert.Update.τ).loc Cert.Update.main_arg3) = m ((c.tc : Thread Cert.Update.nD Cert.Update.τ).loc Cert.Update.main_arg3))
      ∧ r.2.sem = fun _ => 0)

def quiescent_UpdateIdeal [hUpdateIdeal : Cert.UpdateIdeal.Facts] [hPre_ids_in_range : Cert.Pre_ids_in_range.Facts] : Prop :=
  ∀ (m : (ℓ : Loc Cert.UpdateIdeal.nD Cert.UpdateIdeal.τ Cert.UpdateIdeal.sig) → Buf (Elt Ideal) ℓ) (g : Dev Cert.UpdateIdeal.nD → PrngReg), Pre_UpdateIdeal m →
    θ_run (Cert.UpdateIdeal.defs (F := Ideal)) (onTc (τ := Cert.UpdateIdeal.τ) (Cert.UpdateIdeal.main (F := Ideal))) ⟨m, fun _ => 0, g⟩ (fun r => (∀ c : Dev Cert.UpdateIdeal.nD,
      r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
      ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
      ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2)
      ∧ r.2.mem ((c.tc : Thread Cert.UpdateIdeal.nD Cert.UpdateIdeal.τ).loc Cert.UpdateIdeal.main_arg3) = m ((c.tc : Thread Cert.UpdateIdeal.nD Cert.UpdateIdeal.τ).loc Cert.UpdateIdeal.main_arg3))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v3_0)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v23_3) = v1 c
          ∧ r.2.mem ((c.tc : Thread Cert.ReferenceIdeal.nD Cert.ReferenceIdeal.τ).loc Cert.ReferenceIdeal.main_v23_4) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Pool_PoolIdeal : Prop :=
  True

def preserves_Assign_AssignIdeal : Prop :=
  True

def preserves_Update_UpdateIdeal : Prop :=
  True

def Claim : Prop :=
  ∃ (hKernelIdeal : Cert.KernelIdeal.Facts) (hReferenceIdeal : Cert.ReferenceIdeal.Facts) (hPool : Cert.Pool.Facts) (hPoolIdeal : Cert.PoolIdeal.Facts) (hAssign : Cert.Assign.Facts) (hAssignIdeal : Cert.AssignIdeal.Facts) (hUpdate : Cert.Update.Facts) (hUpdateIdeal : Cert.UpdateIdeal.Facts) (hPre_ids_in_range : Cert.Pre_ids_in_range.Facts),
    quiescent_KernelIdeal (hKernelIdeal := hKernelIdeal)
    ∧ quiescent_ReferenceIdeal (hReferenceIdeal := hReferenceIdeal)
    ∧ quiescent_Pool (hPool := hPool)
    ∧ quiescent_PoolIdeal (hPoolIdeal := hPoolIdeal)
    ∧ quiescent_Assign (hAssign := hAssign)
    ∧ quiescent_AssignIdeal (hAssignIdeal := hAssignIdeal)
    ∧ quiescent_Update (hUpdate := hUpdate) (hPre_ids_in_range := hPre_ids_in_range)
    ∧ quiescent_UpdateIdeal (hUpdateIdeal := hUpdateIdeal) (hPre_ids_in_range := hPre_ids_in_range)
    ∧ algebraic_KernelIdeal_ReferenceIdeal (hKernelIdeal := hKernelIdeal) (hReferenceIdeal := hReferenceIdeal)
    ∧ preserves_Pool_PoolIdeal
    ∧ preserves_Assign_AssignIdeal
    ∧ preserves_Update_UpdateIdeal
-- ==== Pre_ids_in_range.lean ====
abbrev S512x1 : Shape := ⟨2, ![512, 1]⟩
abbrev S512x256 : Shape := ⟨2, ![512, 256]⟩
abbrev S8192x256 : Shape := ⟨2, ![8192, 256]⟩
abbrev S8192x1 : Shape := ⟨2, ![8192, 1]⟩
abbrev S_ : Shape := ⟨0, ![]⟩

class Facts : Prop where
  bcast_S_S512x1 : S_.BroadcastsInDim S512x1 (![] : Fin 0 → Fin S512x1.rank)
  reducesTo_S512x1_S_d0_1 : S512x1.ReducesTo [0, 1] S_
  h_S_ : 0 < S_.numel

variable [Facts]

def fn {F : FTy → Type} [FloatOps F] (main_arg0 : IVec S512x1 32) (main_arg1 : FVec F S512x256 .f32) (main_arg2 : FVec F S8192x256 .f32) (main_arg3 : FVec F S8192x1 .f32) : IVec S_ 1 :=
  let main_c : IVec S_ 32 := constantI S_ 32 0#32
  let main_v0 : IVec S512x1 32 := broadcastInDim S512x1 ![] bcast_S_S512x1 main_c
  let main_v1 : IVec S512x1 1 := cmpi .sge main_arg0 main_v0
  let main_c_0 : IVec S_ 32 := constantI S_ 32 8192#32
  let main_v2 : IVec S512x1 32 := broadcastInDim S512x1 ![] bcast_S_S512x1 main_c_0
  let main_v3 : IVec S512x1 1 := cmpi .slt main_arg0 main_v2
  let main_v4 : IVec S512x1 1 := andi main_v1 main_v3
  let main_c_1 : IVec S_ 1 := constantI S_ 1 1#1
  let main_v5 : IVec S_ 1 := (fun x v => Host.reduce IntOp.andi x v reducesTo_S512x1_S_d0_1 h_S_) main_v4 main_c_1
  main_v5
-- ==== KernelIdeal.lean ====
abbrev S512x256x256 : Shape := ⟨3, ![512, 256, 256]⟩
abbrev S8192x256 : Shape := ⟨2, ![8192, 256]⟩
abbrev S8192 : Shape := ⟨1, ![8192]⟩
abbrev S512x256 : Shape := ⟨2, ![512, 256]⟩
abbrev S16x256x256 : Shape := ⟨3, ![16, 256, 256]⟩
abbrev S16x256 : Shape := ⟨2, ![16, 256]⟩
abbrev S16 : Shape := ⟨1, ![16]⟩
abbrev S16x1 : Shape := ⟨2, ![16, 1]⟩
abbrev S512x1 : Shape := ⟨2, ![512, 1]⟩
abbrev S1024x256 : Shape := ⟨2, ![1024, 256]⟩
abbrev S1024 : Shape := ⟨1, ![1024]⟩
abbrev S1024x1 : Shape := ⟨2, ![1024, 1]⟩
abbrev S512x1024 : Shape := ⟨2, ![512, 1024]⟩
abbrev S512 : Shape := ⟨1, ![512]⟩
abbrev S8192x1 : Shape := ⟨2, ![8192, 1]⟩
abbrev S_ : Shape := ⟨0, ![]⟩
abbrev S1x1 : Shape := ⟨2, ![1, 1]⟩
abbrev S1x256 : Shape := ⟨2, ![1, 256]⟩
abbrev S1x1x256 : Shape := ⟨3, ![1, 1, 256]⟩
abbrev S1 : Shape := ⟨1, ![1]⟩
abbrev S1x1x1 : Shape := ⟨3, ![1, 1, 1]⟩

abbrev nBuf : Space → Nat
  | .hbm => 12
  | .vmem => 15
  | .smem => 1
  | _ => 0

abbrev bufTy : (tb : Table) → Fin (tcTables nBuf tb) → BufTy
  | .hbm, ⟨0, _⟩ => ⟨S512x256x256, .f32⟩
  | .hbm, ⟨1, _⟩ => ⟨S8192x256, .f32⟩
  | .hbm, ⟨2, _⟩ => ⟨S8192, .f32⟩
  | .hbm, ⟨3, _⟩ => ⟨S512x256, .f32⟩
  | .hbm, ⟨4, _⟩ => ⟨S512x256, .f32⟩
  | .hbm, ⟨5, _⟩ => ⟨S512x1, .i32⟩
  | .hbm, ⟨6, _⟩ => ⟨S512x1, .f32⟩
  | .hbm, ⟨7, _⟩ => ⟨S8192x1, .f32⟩
  | .hbm, ⟨8, _⟩ => ⟨S8192x256, .f32⟩
  | .hbm, ⟨9, _⟩ => ⟨S8192x1, .f32⟩
  | .hbm, ⟨10, _⟩ => ⟨S512, .i32⟩
  | .hbm, ⟨11, _⟩ => ⟨S8192, .f32⟩
  | .local _ .vmem, ⟨0, _⟩ => ⟨S16x256x256, .f32⟩
  | .local _ .vmem, ⟨1, _⟩ => ⟨S16x256x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S512x256, .f32⟩
  | .local _ .vmem, ⟨7, _⟩ => ⟨S1024x256, .f32⟩
  | .local _ .vmem, ⟨8, _⟩ => ⟨S1024x256, .f32⟩
  | .local _ .vmem, ⟨9, _⟩ => ⟨S512x1, .i32⟩
  | .local _ .vmem, ⟨10, _⟩ => ⟨S512x1, .f32⟩
  | .local _ .vmem, ⟨11, _⟩ => ⟨S512x256, .f32⟩
  | .local _ .vmem, ⟨12, _⟩ => ⟨S8192x1, .f32⟩
  | .local _ .vmem, ⟨13, _⟩ => ⟨S8192x256, .f32⟩
  | .local _ .vmem, ⟨14, _⟩ => ⟨S8192x1, .f32⟩
  | .local _ .smem, ⟨0, _⟩ => ⟨S512x1, .i32⟩
  | _, _ => ⟨S512x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg0_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem3_0 : DmaSem sig := 10
abbrev cc2_sem0_0 : DmaSem sig := 11
abbrev cc2_sem1_0 : DmaSem sig := 12
abbrev cc2_sem2_0 : DmaSem sig := 13
abbrev cc2_sem3_0 : DmaSem sig := 14
abbrev cc2_sem4_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def k1_cond1 (i : grid1.Coords) : BitVec 1 :=
  let arg0 : BitVec 32 := BitVec.ofNat 32 (i 0).val
  let c0_i32 : BitVec 32 := 0#32
  let v26 : BitVec 1 := Scalar.cmpi .eq arg0 c0_i32
  let v27 : BitVec 32 := Scalar.extui v26
  let c0_i32_8 : BitVec 32 := 0#32
  let v28 : BitVec 1 := Scalar.cmpi .ne v27 c0_i32_8
  v28

def k1_cond2 (i : grid1.Coords) : BitVec 1 :=
  let arg0 : BitVec 32 := BitVec.ofNat 32 (i 0).val
  let c0_i32_9 : BitVec 32 := 0#32
  let v29 : BitVec 1 := Scalar.cmpi .sgt arg0 c0_i32_9
  let v30 : BitVec 32 := Scalar.extui v29
  let c0_i32_10 : BitVec 32 := 0#32
  let v31 : BitVec 1 := Scalar.cmpi .ne v30 c0_i32_10
  v31

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S512x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x1 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![1], ![false]⟩

@[reducible] def k2_t1_loop : Scf.Loop 32 :=
  let c0_i32 : BitVec 32 := 0#32
  let c512_i32 : BitVec 32 := 512#32
  let v3 : BitVec 32 := Scalar.addi c0_i32 c512_i32
  let c1_i32 : BitVec 32 := 1#32
  ⟨c0_i32, v3, c1_i32⟩
def k2_off1 (k2_t1 : Fin k2_t1_loop.trips) : Fin 2 → Nat :=
  let c0_i32 : BitVec 32 := 0#32
  let c1_i32 : BitVec 32 := 1#32
  let arg8 : BitVec 32 := Scf.iv c0_i32 c1_i32 k2_t1
  let v4 : Index := Scalar.indexCast arg8
  let c0_4 : Index := 0#32
  ![v4.toNat, 0]
def k2_off2 (v5 : BitVec 32) : Fin 2 → Nat :=
  let v6 : Index := Scalar.indexCast v5
  let c0_5 : Index := 0#32
  ![v6.toNat, 0]

def k2_off3 (k2_t1 : Fin k2_t1_loop.trips) : Fin 2 → Nat :=
  let c0_i32 : BitVec 32 := 0#32
  let c1_i32 : BitVec 32 := 1#32
  let arg8 : BitVec 32 := Scf.iv c0_i32 c1_i32 k2_t1
  let v14 : Index := Scalar.indexCast arg8
  let c0_8 : Index := 0#32
  ![v14.toNat, 0]
def k2_off4 (v5 : BitVec 32) : Fin 2 → Nat :=
  let v17 : Index := Scalar.indexCast v5
  let c0_9 : Index := 0#32
  ![v17.toNat, 0]

def k2_chk1 (v5 : BitVec 32) : Prop :=
  (∀ a, (k2_off2 v5) a + S1x1.size a ≤ S8192x1.size a) ∧
  (∀ a, (k2_off4 v5) a + S1x256.size a ≤ S8192x256.size a)
theorem k2_off2_inb : ∀ (v5 : BitVec 32) (k2_hw1 : k2_chk1 v5), ∀ a, (k2_off2 v5) a + S1x1.size a ≤ S8192x1.size a := fun v5 k2_hw1 => k2_hw1.1
theorem k2_off4_inb : ∀ (v5 : BitVec 32) (k2_hw1 : k2_chk1 v5), ∀ a, (k2_off4 v5) a + S1x256.size a ≤ S8192x256.size a := fun v5 k2_hw1 => k2_hw1.2

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .smem S512x1 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S512x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S8192x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S8192x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S8192x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]
-- ==== ReferenceIdeal.lean ====
abbrev S512x256x256 : Shape := ⟨3, ![512, 256, 256]⟩
abbrev S8192x256 : Shape := ⟨2, ![8192, 256]⟩
abbrev S8192 : Shape := ⟨1, ![8192]⟩
abbrev S_ : Shape := ⟨0, ![]⟩
abbrev S512x256 : Shape := ⟨2, ![512, 256]⟩
abbrev S512 : Shape := ⟨1, ![512]⟩
abbrev S512x1 : Shape := ⟨2, ![512, 1]⟩
abbrev S8192x1 : Shape := ⟨2, ![8192, 1]⟩
abbrev S256x8192 : Shape := ⟨2, ![256, 8192]⟩
abbrev S512x8192 : Shape := ⟨2, ![512, 8192]⟩
abbrev S1 : Shape := ⟨1, ![1]⟩
abbrev S1x256 : Shape := ⟨2, ![1, 256]⟩
abbrev S256 : Shape := ⟨1, ![256]⟩

abbrev nBuf : Space → Nat
  | .hbm => 124
  | .vmem => 0
  | .smem => 0
  | _ => 0

abbrev bufTy : (tb : Table) → Fin (tcTables nBuf tb) → BufTy
  | .hbm, ⟨0, _⟩ => ⟨S512x256x256, .f32⟩
  | .hbm, ⟨1, _⟩ => ⟨S8192x256, .f32⟩
  | .hbm, ⟨2, _⟩ => ⟨S8192, .f32⟩
  | .hbm, ⟨3, _⟩ => ⟨S_, .f32⟩
  | .hbm, ⟨4, _⟩ => ⟨S512x256, .f32⟩
  | .hbm, ⟨5, _⟩ => ⟨S_, .f32⟩
  | .hbm, ⟨6, _⟩ => ⟨S512x256, .f32⟩
  | .hbm, ⟨7, _⟩ => ⟨S512x256, .f32⟩
  | .hbm, ⟨8, _⟩ => ⟨S512x256, .f32⟩
  | .hbm, ⟨9, _⟩ => ⟨S_, .f32⟩
  | .hbm, ⟨10, _⟩ => ⟨S512, .f32⟩
  | .hbm, ⟨11, _⟩ => ⟨S512x1, .f32⟩
  | .hbm, ⟨12, _⟩ => ⟨S512x1, .f32⟩
  | .hbm, ⟨13, _⟩ => ⟨S_, .f32⟩
  | .hbm, ⟨14, _⟩ => ⟨S512x1, .f32⟩
  | .hbm, ⟨15, _⟩ => ⟨S512x1, .f32⟩
  | .hbm, ⟨16, _⟩ => ⟨S512x256, .f32⟩
  | .hbm, ⟨17, _⟩ => ⟨S512x256, .f32⟩
  | .hbm, ⟨18, _⟩ => ⟨S512x256, .f32⟩
  | .hbm, ⟨19, _⟩ => ⟨S_, .f32⟩
  | .hbm, ⟨20, _⟩ => ⟨S512, .f32⟩
  | .hbm, ⟨21, _⟩ => ⟨S512x1, .f32⟩
  | .hbm, ⟨22, _⟩ => ⟨S512x1, .f32⟩
  | .hbm, ⟨23, _⟩ => ⟨S_, .f32⟩
  | .hbm, ⟨24, _⟩ => ⟨S512x1, .f32⟩
  | .hbm, ⟨25, _⟩ => ⟨S512x1, .f32⟩
  | .hbm, ⟨26, _⟩ => ⟨S512x256, .f32⟩
  | .hbm, ⟨27, _⟩ => ⟨S512x256, .f32⟩
  | .hbm, ⟨28, _⟩ => ⟨S8192x256, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x256, .f32⟩
  | .hbm, ⟨37, _⟩ => ⟨S8192x256, .f32⟩
  | .hbm, ⟨38, _⟩ => ⟨S256x8192, .f32⟩
  | .hbm, ⟨39, _⟩ => ⟨S512x8192, .f32⟩
  | .hbm, ⟨40, _⟩ => ⟨S_, .f32⟩
  | .hbm, ⟨41, _⟩ => ⟨S512x8192, .f32⟩
  | .hbm, ⟨42, _⟩ => ⟨S512x8192, .f32⟩
  | .hbm, ⟨43, _⟩ => ⟨S512x8192, .i32⟩
  | .hbm, ⟨44, _⟩ => ⟨S_, .f32⟩
  | .hbm, ⟨45, _⟩ => ⟨S_, .i32⟩
  | .hbm, ⟨46, _⟩ => ⟨S512, .f32⟩
  | .hbm, ⟨47, _⟩ => ⟨S512, .i32⟩
  | .hbm, ⟨48, _⟩ => ⟨S_, .i32⟩
  | .hbm, ⟨49, _⟩ => ⟨S512, .i32⟩
  | .hbm, ⟨50, _⟩ => ⟨S512x256, .f32⟩
  | .hbm, ⟨51, _⟩ => ⟨S_, .i32⟩
  | .hbm, ⟨52, _⟩ => ⟨S8192x256, .f32⟩
  | .hbm, ⟨53, _⟩ => ⟨S8192, .f32⟩
  | .hbm, ⟨54, _⟩ => ⟨S_, .i32⟩
  | .hbm, ⟨55, _⟩ => ⟨S_, .i1⟩
  | .hbm, ⟨56, _⟩ => ⟨S1, .i32⟩
  | .hbm, ⟨57, _⟩ => ⟨S_, .i32⟩
  | .hbm, ⟨58, _⟩ => ⟨S_, .i32⟩
  | .hbm, ⟨59, _⟩ => ⟨S1x256, .f32⟩
  | .hbm, ⟨60, _⟩ => ⟨S256, .f32⟩
  | .hbm, ⟨61, _⟩ => ⟨S_, .i32⟩
  | .hbm, ⟨62, _⟩ => ⟨S_, .i1⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S1, .f32⟩
  | .hbm, ⟨67, _⟩ => ⟨S_, .f32⟩
  | .hbm, ⟨68, _⟩ => ⟨S_, .f32⟩
  | .hbm, ⟨69, _⟩ => ⟨S_, .i1⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .i32⟩
  | .hbm, ⟨74, _⟩ => ⟨S_, .i1⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S_, .i1⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S1x256, .f32⟩
  | .hbm, ⟨87, _⟩ => ⟨S256, .f32⟩
  | .hbm, ⟨88, _⟩ => ⟨S_, .f32⟩
  | .hbm, ⟨89, _⟩ => ⟨S256, .f32⟩
  | .hbm, ⟨90, _⟩ => ⟨S256, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S256, .f32⟩
  | .hbm, ⟨95, _⟩ => ⟨S256, .f32⟩
  | .hbm, ⟨96, _⟩ => ⟨S256, .f32⟩
  | .hbm, ⟨97, _⟩ => ⟨S256, .f32⟩
  | .hbm, ⟨98, _⟩ => ⟨S_, .f32⟩
  | .hbm, ⟨99, _⟩ => ⟨S_, .f32⟩
  | .hbm, ⟨100, _⟩ => ⟨S1, .f32⟩
  | .hbm, ⟨101, _⟩ => ⟨S1, .f32⟩
  | .hbm, ⟨102, _⟩ => ⟨S_, .f32⟩
  | .hbm, ⟨103, _⟩ => ⟨S1, .f32⟩
  | .hbm, ⟨104, _⟩ => ⟨S1, .f32⟩
  | .hbm, ⟨105, _⟩ => ⟨S256, .f32⟩
  | .hbm, ⟨106, _⟩ => ⟨S256, .f32⟩
  | .hbm, ⟨107, _⟩ => ⟨S_, .i32⟩
  | .hbm, ⟨108, _⟩ => ⟨S_, .i1⟩
  | .hbm, ⟨109, _⟩ => ⟨S_, .i32⟩
  | .hbm, ⟨110, _⟩ => ⟨S_, .i32⟩
  | .hbm, ⟨111, _⟩ => ⟨S_, .i32⟩
  | .hbm, ⟨112, _⟩ => ⟨S1, .i32⟩
  | .hbm, ⟨113, _⟩ => ⟨S8192x256, .f32⟩
  | .hbm, ⟨114, _⟩ => ⟨S_, .i32⟩
  | .hbm, ⟨115, _⟩ => ⟨S_, .i1⟩
  | .hbm, ⟨116, _⟩ => ⟨S_, .i32⟩
  | .hbm, ⟨117, _⟩ => ⟨S_, .i32⟩
  | .hbm, ⟨118, _⟩ => ⟨S_, .i32⟩
  | .hbm, ⟨119, _⟩ => ⟨S1, .i32⟩
  | .hbm, ⟨120, _⟩ => ⟨S_, .f32⟩
  | .hbm, ⟨121, _⟩ => ⟨S8192, .f32⟩
  | .hbm, ⟨122, _⟩ => ⟨S_, .i32⟩
  | .hbm, ⟨123, _⟩ => ⟨S_, .i32⟩
  | _, _ => ⟨S512x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_call0_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call1_v0 : Ref sig .tc := ⟨.hbm, 18, rfl⟩
abbrev main_call1_cst : Ref sig .tc := ⟨.hbm, 19, rfl⟩
abbrev main_call1_v1 : Ref sig .tc := ⟨.hbm, 20, rfl⟩
abbrev main_call1_v2 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_call2_v0 : Ref sig .tc := ⟨.hbm, 28, rfl⟩
abbrev main_call2_cst : Ref sig .tc := ⟨.hbm, 29, rfl⟩
abbrev main_call2_v1 : Ref sig .tc := ⟨.hbm, 30, rfl⟩
abbrev main_call2_v2 : Ref sig .tc := ⟨.hbm, 31, rfl⟩
abbrev main_v13 : Ref sig .tc := ⟨.hbm, 32, rfl⟩
abbrev main_cst_3 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_4 : Ref sig .tc := ⟨.hbm, 40, rfl⟩
abbrev main_v20 : Ref sig .tc := ⟨.hbm, 41, rfl⟩
abbrev main_v21 : Ref sig .tc := ⟨.hbm, 42, rfl⟩
abbrev main_call3_v0 : Ref sig .tc := ⟨.hbm, 43, rfl⟩
abbrev main_call3_cst : Ref sig .tc := ⟨.hbm, 44, rfl⟩
abbrev main_call3_c : Ref sig .tc := ⟨.hbm, 45, rfl⟩
abbrev main_call3_v1_0 : Ref sig .tc := ⟨.hbm, 46, rfl⟩
abbrev main_v22 : Ref sig .tc := ⟨.hbm, 47, rfl⟩
abbrev main_c : Ref sig .tc := ⟨.hbm, 48, rfl⟩
abbrev main_v23_0 : Ref sig .tc := ⟨.hbm, 49, rfl⟩
abbrev main_v23_1 : Ref sig .tc := ⟨.hbm, 50, rfl⟩
abbrev main_v23_2 : Ref sig .tc := ⟨.hbm, 51, rfl⟩
abbrev main_v23_3 : Ref sig .tc := ⟨.hbm, 52, rfl⟩
abbrev main_v23_4 : Ref sig .tc := ⟨.hbm, 53, rfl⟩
abbrev main_while0c_c_9 : Ref sig .tc := ⟨.hbm, 54, rfl⟩
abbrev main_while0c_v24 : Ref sig .tc := ⟨.hbm, 55, rfl⟩
abbrev main_while0b_call4_v0 : Ref sig .tc := ⟨.hbm, 56, rfl⟩
abbrev main_while0b_v24 : Ref sig .tc := ⟨.hbm, 57, rfl⟩
abbrev main_while0b_call5_c : Ref sig .tc := ⟨.hbm, 58, rfl⟩
abbrev main_while0b_call5_v0 : Ref sig .tc := ⟨.hbm, 59, rfl⟩
abbrev main_while0b_v25 : Ref sig .tc := ⟨.hbm, 60, rfl⟩
abbrev main_while0b_c_9 : Ref sig .tc := ⟨.hbm, 61, rfl⟩
abbrev main_while0b_v26 : Ref sig .tc := ⟨.hbm, 62, rfl⟩
abbrev main_while0b_c_10 : Ref sig .tc := ⟨.hbm, 63, rfl⟩
abbrev main_while0b_v27 : Ref sig .tc := ⟨.hbm, 64, rfl⟩
abbrev main_while0b_v28 : Ref sig .tc := ⟨.hbm, 65, rfl⟩
abbrev main_while0b_v29 : Ref sig .tc := ⟨.hbm, 66, rfl⟩
abbrev main_while0b_v30 : Ref sig .tc := ⟨.hbm, 67, rfl⟩
abbrev main_while0b_cst_11 : Ref sig .tc := ⟨.hbm, 68, rfl⟩
abbrev main_while0b_v31 : Ref sig .tc := ⟨.hbm, 69, rfl⟩
abbrev main_while0b_cst_12 : Ref sig .tc := ⟨.hbm, 70, rfl⟩
abbrev main_while0b_cst_13 : Ref sig .tc := ⟨.hbm, 71, rfl⟩
abbrev main_while0b_v32 : Ref sig .tc := ⟨.hbm, 72, rfl⟩
abbrev main_while0b_c_14 : Ref sig .tc := ⟨.hbm, 73, rfl⟩
abbrev main_while0b_v33 : Ref sig .tc := ⟨.hbm, 74, rfl⟩
abbrev main_while0b_c_15 : Ref sig .tc := ⟨.hbm, 75, rfl⟩
abbrev main_while0b_v34 : Ref sig .tc := ⟨.hbm, 76, rfl⟩
abbrev main_while0b_v35 : Ref sig .tc := ⟨.hbm, 77, rfl⟩
abbrev main_while0b_c_16 : Ref sig .tc := ⟨.hbm, 78, rfl⟩
abbrev main_while0b_c_17 : Ref sig .tc := ⟨.hbm, 79, rfl⟩
abbrev main_while0b_v36 : Ref sig .tc := ⟨.hbm, 80, rfl⟩
abbrev main_while0b_c_18 : Ref sig .tc := ⟨.hbm, 81, rfl⟩
abbrev main_while0b_c_19 : Ref sig .tc := ⟨.hbm, 82, rfl⟩
abbrev main_while0b_v37 : Ref sig .tc := ⟨.hbm, 83, rfl⟩
abbrev main_while0b_c_20 : Ref sig .tc := ⟨.hbm, 84, rfl⟩
abbrev main_while0b_v38 : Ref sig .tc := ⟨.hbm, 85, rfl⟩
abbrev main_while0b_v39 : Ref sig .tc := ⟨.hbm, 86, rfl⟩
abbrev main_while0b_v40 : Ref sig .tc := ⟨.hbm, 87, rfl⟩
abbrev main_while0b_v41 : Ref sig .tc := ⟨.hbm, 88, rfl⟩
abbrev main_while0b_v42 : Ref sig .tc := ⟨.hbm, 89, rfl⟩
abbrev main_while0b_v43 : Ref sig .tc := ⟨.hbm, 90, rfl⟩
abbrev main_while0b_cst_21 : Ref sig .tc := ⟨.hbm, 91, rfl⟩
abbrev main_while0b_v44 : Ref sig .tc := ⟨.hbm, 92, rfl⟩
abbrev main_while0b_v45 : Ref sig .tc := ⟨.hbm, 93, rfl⟩
abbrev main_while0b_v46 : Ref sig .tc := ⟨.hbm, 94, rfl⟩
abbrev main_while0b_v47 : Ref sig .tc := ⟨.hbm, 95, rfl⟩
abbrev main_while0b_v48 : Ref sig .tc := ⟨.hbm, 96, rfl⟩
abbrev main_while0b_call7_v0 : Ref sig .tc := ⟨.hbm, 97, rfl⟩
abbrev main_while0b_call7_cst : Ref sig .tc := ⟨.hbm, 98, rfl⟩
abbrev main_while0b_call7_v1 : Ref sig .tc := ⟨.hbm, 99, rfl⟩
abbrev main_while0b_call7_v2 : Ref sig .tc := ⟨.hbm, 100, rfl⟩
abbrev main_while0b_v49 : Ref sig .tc := ⟨.hbm, 101, rfl⟩
abbrev main_while0b_cst_22 : Ref sig .tc := ⟨.hbm, 102, rfl⟩
abbrev main_while0b_v50 : Ref sig .tc := ⟨.hbm, 103, rfl⟩
abbrev main_while0b_v51 : Ref sig .tc := ⟨.hbm, 104, rfl⟩
abbrev main_while0b_v52 : Ref sig .tc := ⟨.hbm, 105, rfl⟩
abbrev main_while0b_v53 : Ref sig .tc := ⟨.hbm, 106, rfl⟩
abbrev main_while0b_c_23 : Ref sig .tc := ⟨.hbm, 107, rfl⟩
abbrev main_while0b_v54 : Ref sig .tc := ⟨.hbm, 108, rfl⟩
abbrev main_while0b_c_24 : Ref sig .tc := ⟨.hbm, 109, rfl⟩
abbrev main_while0b_v55 : Ref sig .tc := ⟨.hbm, 110, rfl⟩
abbrev main_while0b_v56 : Ref sig .tc := ⟨.hbm, 111, rfl⟩
abbrev main_while0b_v57 : Ref sig .tc := ⟨.hbm, 112, rfl⟩
abbrev main_while0b_v58 : Ref sig .tc := ⟨.hbm, 113, rfl⟩
abbrev main_while0b_c_25 : Ref sig .tc := ⟨.hbm, 114, rfl⟩
abbrev main_while0b_v59 : Ref sig .tc := ⟨.hbm, 115, rfl⟩
abbrev main_while0b_c_26 : Ref sig .tc := ⟨.hbm, 116, rfl⟩
abbrev main_while0b_v60 : Ref sig .tc := ⟨.hbm, 117, rfl⟩
abbrev main_while0b_v61 : Ref sig .tc := ⟨.hbm, 118, rfl⟩
abbrev main_while0b_v62 : Ref sig .tc := ⟨.hbm, 119, rfl⟩
abbrev main_while0b_cst_27 : Ref sig .tc := ⟨.hbm, 120, rfl⟩
abbrev main_while0b_v63 : Ref sig .tc := ⟨.hbm, 121, rfl⟩
abbrev main_while0b_c_28 : Ref sig .tc := ⟨.hbm, 122, rfl⟩
abbrev main_while0b_v64 : Ref sig .tc := ⟨.hbm, 123, rfl⟩

abbrev nD : Nat := 1
abbrev τ : Topo := Topo.v7x

variable {F : FTy → Type} [FloatOps F]

abbrev main_while0_count : Scf.Loop 32 := ⟨0#32, 512#32, 1#32⟩
-- ==== Pool.lean ====
abbrev S512x256x256 : Shape := ⟨3, ![512, 256, 256]⟩
abbrev S512x256 : Shape := ⟨2, ![512, 256]⟩
abbrev S16x256x256 : Shape := ⟨3, ![16, 256, 256]⟩
abbrev S16x256 : Shape := ⟨2, ![16, 256]⟩
abbrev S16 : Shape := ⟨1, ![16]⟩
abbrev S16x1 : Shape := ⟨2, ![16, 1]⟩

abbrev nBuf : Space → Nat
  | .hbm => 3
  | .vmem => 6
  | .smem => 0
  | _ => 0

abbrev bufTy : (tb : Table) → Fin (tcTables nBuf tb) → BufTy
  | .hbm, ⟨0, _⟩ => ⟨S512x256x256, .f32⟩
  | .hbm, ⟨1, _⟩ => ⟨S512x256, .f32⟩
  | .hbm, ⟨2, _⟩ => ⟨S512x256, .f32⟩
  | .local _ .vmem, ⟨0, _⟩ => ⟨S16x256x256, .f32⟩
  | .local _ .vmem, ⟨1, _⟩ => ⟨S16x256x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | _, _ => ⟨S512x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Assign.lean ====
abbrev S512x256 : Shape := ⟨2, ![512, 256]⟩
abbrev S8192x256 : Shape := ⟨2, ![8192, 256]⟩
abbrev S512x1 : Shape := ⟨2, ![512, 1]⟩
abbrev S1024x256 : Shape := ⟨2, ![1024, 256]⟩
abbrev S1024 : Shape := ⟨1, ![1024]⟩
abbrev S1024x1 : Shape := ⟨2, ![1024, 1]⟩
abbrev S512x1024 : Shape := ⟨2, ![512, 1024]⟩
abbrev S512 : Shape := ⟨1, ![512]⟩

abbrev nBuf : Space → Nat
  | .hbm => 4
  | .vmem => 5
  | .smem => 0
  | _ => 0

abbrev bufTy : (tb : Table) → Fin (tcTables nBuf tb) → BufTy
  | .hbm, ⟨0, _⟩ => ⟨S512x256, .f32⟩
  | .hbm, ⟨1, _⟩ => ⟨S8192x256, .f32⟩
  | .hbm, ⟨2, _⟩ => ⟨S512x1, .i32⟩
  | .hbm, ⟨3, _⟩ => ⟨S512x1, .f32⟩
  | .local _ .vmem, ⟨0, _⟩ => ⟨S512x256, .f32⟩
  | .local _ .vmem, ⟨1, _⟩ => ⟨S1024x256, .f32⟩
  | .local _ .vmem, ⟨2, _⟩ => ⟨S1024x256, .f32⟩
  | .local _ .vmem, ⟨3, _⟩ => ⟨S512x1, .i32⟩
  | .local _ .vmem, ⟨4, _⟩ => ⟨S512x1, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v25 : BitVec 1 := Scalar.cmpi .eq arg0 c0_i32
  let v26 : BitVec 32 := Scalar.extui v25
  let c0_i32_8 : BitVec 32 := 0#32
  let v27 : BitVec 1 := Scalar.cmpi .ne v26 c0_i32_8
  v27

def k0_cond2 (i : grid0.Coords) : BitVec 1 :=
  let arg0 : BitVec 32 := BitVec.ofNat 32 (i 0).val
  let c0_i32_9 : BitVec 32 := 0#32
  let v28 : BitVec 1 := Scalar.cmpi .sgt arg0 c0_i32_9
  let v29 : BitVec 32 := Scalar.extui v28
  let c0_i32_10 : BitVec 32 := 0#32
  let v30 : BitVec 1 := Scalar.cmpi .ne v29 c0_i32_10
  v30

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Update.lean ====
abbrev S512x1 : Shape := ⟨2, ![512, 1]⟩
abbrev S512x256 : Shape := ⟨2, ![512, 256]⟩
abbrev S8192x256 : Shape := ⟨2, ![8192, 256]⟩
abbrev S8192x1 : Shape := ⟨2, ![8192, 1]⟩
abbrev S_ : Shape := ⟨0, ![]⟩
abbrev S1x1 : Shape := ⟨2, ![1, 1]⟩
abbrev S1x256 : Shape := ⟨2, ![1, 256]⟩
abbrev S1x1x256 : Shape := ⟨3, ![1, 1, 256]⟩
abbrev S1 : Shape := ⟨1, ![1]⟩
abbrev S1x1x1 : Shape := ⟨3, ![1, 1, 1]⟩

abbrev nBuf : Space → Nat
  | .hbm => 6
  | .vmem => 4
  | .smem => 1
  | _ => 0

abbrev bufTy : (tb : Table) → Fin (tcTables nBuf tb) → BufTy
  | .hbm, ⟨0, _⟩ => ⟨S512x1, .i32⟩
  | .hbm, ⟨1, _⟩ => ⟨S512x256, .f32⟩
  | .hbm, ⟨2, _⟩ => ⟨S8192x256, .f32⟩
  | .hbm, ⟨3, _⟩ => ⟨S8192x1, .f32⟩
  | .hbm, ⟨4, _⟩ => ⟨S8192x256, .f32⟩
  | .hbm, ⟨5, _⟩ => ⟨S8192x1, .f32⟩
  | .local _ .vmem, ⟨0, _⟩ => ⟨S512x256, .f32⟩
  | .local _ .vmem, ⟨1, _⟩ => ⟨S8192x1, .f32⟩
  | .local _ .vmem, ⟨2, _⟩ => ⟨S8192x256, .f32⟩
  | .local _ .vmem, ⟨3, _⟩ => ⟨S8192x1, .f32⟩
  | .local _ .smem, ⟨0, _⟩ => ⟨S512x1, .i32⟩
  | _, _ => ⟨S512x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c512_i32 : BitVec 32 := 512#32
  let v2 : BitVec 32 := Scalar.addi c0_i32 c512_i32
  let c1_i32 : BitVec 32 := 1#32
  ⟨c0_i32, v2, c1_i32⟩
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let v3 : Index := Scalar.indexCast arg8
  let c0_4 : Index := 0#32
  ![v3.toNat, 0]
def k0_off2 (v4 : BitVec 32) : Fin 2 → Nat :=
  let v5 : Index := Scalar.indexCast v4
  let c0_5 : Index := 0#32
  ![v5.toNat, 0]

def k0_off3 (k0_t1 : Fin k0_t1_loop.trips) : Fin 2 → Nat :=
  let c0_i32 : BitVec 32 := 0#32
  let c1_i32 : BitVec 32 := 1#32
  let arg8 : BitVec 32 := Scf.iv c0_i32 c1_i32 k0_t1
  let v13 : Index := Scalar.indexCast arg8
  let c0_8 : Index := 0#32
  ![v13.toNat, 0]
def k0_off4 (v4 : BitVec 32) : Fin 2 → Nat :=
  let v15 : Index := Scalar.indexCast v4
  let c0_9 : Index := 0#32
  ![v15.toNat, 0]

def k0_chk1 (v4 : BitVec 32) : Prop :=
  (∀ a, (k0_off2 v4) a + S1x1.size a ≤ S8192x1.size a) ∧
  (∀ a, (k0_off4 v4) a + S1x256.size a ≤ S8192x256.size a)
theorem k0_off2_inb : ∀ (v4 : BitVec 32) (k0_hw1 : k0_chk1 v4), ∀ a, (k0_off2 v4) a + S1x1.size a ≤ S8192x1.size a := fun v4 k0_hw1 => k0_hw1.1
theorem k0_off4_inb : ∀ (v4 : BitVec 32) (k0_hw1 : k0_chk1 v4), ∀ a, (k0_off4 v4) a + S1x256.size a ≤ S8192x256.size a := fun v4 k0_hw1 => k0_hw1.2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S512x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8192x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8192x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Proof.BodyPool.lean ====
/- The first pallas_call's body: what it leaves in its two output blocks. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.VecWindow
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 1000000 in
/-- The pooling body, given its input block `x0`, leaves the pooled normalized rows in the first output and
    the rows normalized a second time in the other. -/
theorem pool_body (c : Dev nD) (E : Set ℕ) (i : grid0.Coords) (arg1 : Memref sig .tc .vmem S16x256x256 .f32) (harg1 : arg1.IsWhole)
    (arg2 : Memref sig .tc .vmem S16x256 .f32) (harg2 : arg2.IsWhole) (arg3 : Memref sig .tc .vmem S16x256 .f32) (harg3 : arg3.IsWhole)
    (x0 : Vec F S16x256x256 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (k0_pay1 x0)
            ∗ owns (c : Thread nD τ) arg3 fullShare (k0_pay2 x0)) -∗ K ⟨⟩))
      ⊢ wp frame (wpE (defs₀ (F := F)) Variants.none c none) E (cc0__desc_body i arg1 harg1 arg2 harg2 arg3 harg3) K := by
  simp only [cc0__desc_body_eq_skeleton]; unfold cc0__desc_body_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    rw [View.read_writes_full, View.readAt_full]
  iexists _; isplitr
  swap; · iexact H2
  ipureintro
  rw [View.read_writes_full, View.readAt_full]

end Cert.KernelIdeal.Hand

end
-- ==== Proof.BodyAssign.lean ====
/- The second pallas_call's body: the running minimum and its place, over the blocks of anchors. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.VecWindow
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The first conditional runs at the first grid point only. -/
theorem cond_first : ∀ t : Fin grid1.N, (k1_cond1 (grid1.coords t) = 1#1) ↔ t.val = 0 := by decide +kernel

/-- The second conditional runs at the later grid points only. -/
theorem cond_later : ∀ t : Fin grid1.N, (k1_cond2 (grid1.coords t) = 1#1) ↔ t.val ≠ 0 := by decide +kernel

set_option maxHeartbeats 1000000 in
/-- At the first grid point the body stores the block's minimum of every row and its place. -/
theorem assign_body_first (c : Dev nD) (E : Set ℕ) (i : grid1.Coords) (arg1 : Memref sig .tc .vmem S512x256 .f32) (harg1 : arg1.IsWhole)
    (arg2 : Memref sig .tc .vmem S1024x256 .f32) (harg2 : arg2.IsWhole) (arg3 : Memref sig .tc .vmem S512x1 .i32) (harg3 : arg3.IsWhole)
    (arg4 : Memref sig .tc .vmem S512x1 .f32) (harg4 : arg4.IsWhole)
    (hc0 : k1_cond1 i = 1#1) (hc1 : ¬ k1_cond2 i = 1#1)
    (x0 : Vec F S512x256 .f32) (x1 : Vec F S1024x256 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (k1_pay3 i x0 x1) ∗ owns (c : Thread nD τ) arg4 fullShare (k1_pay2 x0 x1)) -∗ K ⟨⟩))
      ⊢ wp frame (wpE (defs₀ (F := F)) Variants.none c none) E (cc1__argmin_body i arg1 harg1 arg2 harg2 arg3 harg3 arg4 harg4) K := by
  simp only [cc1__argmin_body_eq_skeleton]; unfold cc1__argmin_body_skel
  unfold owns
  iintro ⟨⟨%f0, %hf0, H0⟩, ⟨%f1, %hf1, H1⟩, ⟨%d2, %f2, -, H2⟩, ⟨%d3, %f3, -, H3⟩, Hk⟩
  subst hf0 hf1
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_full, View.readAt_full, View.readAt_full]
  iexists _; isplitr
  swap; · iexact H3
  ipureintro
  rw [View.read_writes_full, View.readAt_full, View.readAt_full]

set_option maxHeartbeats 1000000 in
/-- At a later grid point the body keeps, row by row, the smaller of the minimum so far and the block's, and its place. -/
theorem assign_body_later (c : Dev nD) (E : Set ℕ) (i : grid1.Coords) (arg1 : Memref sig .tc .vmem S512x256 .f32) (harg1 : arg1.IsWhole)
    (arg2 : Memref sig .tc .vmem S1024x256 .f32) (harg2 : arg2.IsWhole) (arg3 : Memref sig .tc .vmem S512x1 .i32) (harg3 : arg3.IsWhole)
    (arg4 : Memref sig .tc .vmem S512x1 .f32) (harg4 : arg4.IsWhole)
    (hc0 : ¬ k1_cond1 i = 1#1) (hc1 : k1_cond2 i = 1#1)
    (x0 : Vec F S512x256 .f32) (x1 : Vec F S1024x256 .f32) (d3 : Vec F S512x1 .i32) (d4 : Vec F S512x1 .f32) (K : PUnit → sProp 𝕄) :
    iprop(owns (c : Thread nD τ) arg1 fullShare x0 ∗ owns (c : Thread nD τ) arg2 fullShare x1
        ∗ owns (c : Thread nD τ) arg3 fullShare d3 ∗ owns (c : Thread nD τ) arg4 fullShare d4
        ∗ (iprop(owns (c : Thread nD τ) arg1 fullShare x0 ∗ owns (c : Thread nD τ) arg2 fullShare x1
            ∗ owns (c : Thread nD τ) arg3 fullShare (k1_pay7 i x0 x1 d4 d3) ∗ owns (c : Thread nD τ) arg4 fullShare (k1_pay6 x0 x1 d4)) -∗ K ⟨⟩))
      ⊢ wp frame (wpE (defs₀ (F := F)) Variants.none c none) E (cc1__argmin_body i arg1 harg1 arg2 harg2 arg3 harg3 arg4 harg4) K := by
  simp only [cc1__argmin_body_eq_skeleton]; unfold cc1__argmin_body_skel
  unfold owns
  iintro ⟨⟨%f0, %hf0, H0⟩, ⟨%f1, %hf1, H1⟩, ⟨%f2, %hf2, H2⟩, ⟨%f3, %hf3, H3⟩, Hk⟩
  subst hf0 hf1 hf2 hf3
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_full, View.readAt_full, View.readAt_full, View.readAt_full, View.readAt_full]
  iexists _; isplitr
  swap; · iexact H3
  ipureintro
  rw [View.read_writes_full, View.readAt_full, View.readAt_full, View.readAt_full]

end Cert.KernelIdeal.Hand

end
-- ==== Proof.BodyEma.lean ====
/- The third pallas_call's body: the anchors copied in, then one row of them and its count updated per descriptor. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.Value
public import Idealize.ShloMosaic.Lib.VecWindow
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The anchor id that trip `k` reads. -/
def idAt (x : Vec F S512x1 .i32) (k : Fin k2_t1_loop.trips) : BitVec 32 :=
  VecWindow.window x (k2_off1 k) S1x1.size (k2_off1_inb k) (Shape.Idx.first (numel1_S1x1.symm ▸ Nat.one_pos))

/-- The anchors and their counts, as the loop carries them. -/
abbrev Bank (F : FTy → Type) : Type := Vec F S8192x256 .f32 × Vec F S8192x1 .f32

/-- One trip on the anchors and the counts: the row named by the trip's id, and its count, replaced. -/
def emaStep (x : Vec F S512x1 .i32) (d : Vec F S512x256 .f32) (hin : ∀ k, k2_chk1 (idAt (F := F) x k))
    (k : Fin k2_t1_loop.trips) (s : Bank F) : Bank F :=
  (VecWindow.put s.1 (k2_off4 (idAt (F := F) x k)) S1x256.size
      (k2_pay3 (VecWindow.window s.2 (k2_off2 (idAt (F := F) x k)) S1x1.size (k2_off2_inb _ (hin k)))
        (VecWindow.window d (k2_off3 k) S1x256.size (k2_off3_inb k))
        (VecWindow.window s.1 (k2_off4 (idAt (F := F) x k)) S1x256.size (k2_off4_inb _ (hin k)))),
    VecWindow.put s.2 (k2_off2 (idAt (F := F) x k)) S1x1.size
      (k2_pay4 (VecWindow.window s.2 (k2_off2 (idAt (F := F) x k)) S1x1.size (k2_off2_inb _ (hin k)))))

/-- The anchors and the counts after the first `n` trips. -/
def emaRun (x : Vec F S512x1 .i32) (d : Vec F S512x256 .f32) (hin : ∀ k, k2_chk1 (idAt (F := F) x k)) (s : Bank F) : ℕ → Bank F
  | 0 => s
  | n + 1 => if h : n < k2_t1_loop.trips then emaStep x d hin ⟨n, h⟩ (emaRun x d hin s n) else emaRun x d hin s n

/-- One more trip is one more update of the two arrays. -/
theorem emaRun_succ (x : Vec F S512x1 .i32) (d : Vec F S512x256 .f32) (hin : ∀ k, k2_chk1 (idAt (F := F) x k)) (s : Bank F)
    (k : Fin k2_t1_loop.trips) : emaRun x d hin s (k.val + 1) = emaStep x d hin k (emaRun x d hin s k.val) := by
  rw [emaRun, dif_pos k.isLt]

section Body

variable (c : Dev nD) (i : grid2.Coords) (arg1 : Memref sig .tc .smem S512x1 .i32) (harg1 : arg1.IsWhole)
  (arg2 : Memref sig .tc .vmem S512x256 .f32) (harg2 : arg2.IsWhole) (arg3 : Memref sig .tc .hbm S8192x256 .f32) (harg3 : arg3.IsWhole)
  (arg4 : Memref sig .tc .vmem S8192x1 .f32) (harg4 : arg4.IsWhole) (arg5 : Memref sig .tc .vmem S8192x256 .f32) (harg5 : arg5.IsWhole)
  (arg6 : Memref sig .tc .vmem S8192x1 .f32) (harg6 : arg6.IsWhole)

set_option maxHeartbeats 1000000 in
/-- One trip's operations take the anchors and counts at `s` to `emaStep … s`. -/
theorem ema_trip (arg7 : DmaSems sig S_) (E : Set ℕ) (x : Vec F S512x1 .i32) (d : Vec F S512x256 .f32)
    (hin : ∀ k, k2_chk1 (idAt (F := F) x k)) (k : Fin k2_t1_loop.trips) (s : Bank F) :
    (iprop(owns (c : Thread nD τ) arg1 fullShare x ∗ owns (c : Thread nD τ) arg2 fullShare d
      ∗ owns (c : Thread nD τ) arg5 fullShare s.1 ∗ owns (c : Thread nD τ) arg6 fullShare s.2) : sProp 𝕄)
    ⊢ wp frame (wpE (defs₀ (F := F)) Variants.none c none) E
        (k2_t1_body (F := F) i arg1 harg1 arg2 harg2 arg3 harg3 arg4 harg4 arg5 harg5 arg6 harg6 arg7 k ())
        (fun _ => iprop(owns (c : Thread nD τ) arg1 fullShare x ∗ owns (c : Thread nD τ) arg2 fullShare d
          ∗ owns (c : Thread nD τ) arg5 fullShare (emaStep x d hin k s).1 ∗ owns (c : Thread nD τ) arg6 fullShare (emaStep x d hin k s).2)) := by
  have hk : k.val < 512 := Nat.lt_of_lt_of_le k.isLt k2_t1_abs.2.1
  obtain ⟨s1, s2⟩ := s
  unfold k2_t1_body
  unfold owns
  iintro ⟨⟨%f1, %hf1, H1⟩, ⟨%f2, %hf2, H2⟩, ⟨%f5, %hf5, H5⟩, ⟨%f6, %hf6, H6⟩⟩
  subst hf1 hf2 hf5 hf6
  have hchk : k2_chk1 (arg1.view.readAt (Elt F) (Rect.unit (s := S512x1) (k2_off1 k) S1x1.size (k2_off1_inb k)).toLoadRect f1 (Shape.Idx.first (numel1_S1x1.symm ▸ Nat.one_pos))) := hin k
  sl_exec
  sl_step
  isplitl [H1]
  · iexists f1; isplitr; · ipureintro; rfl
    iexact H1
  isplitl [H2]
  · iexists f2; isplitr; · ipureintro; rfl
    iexact H2
  isplitl [H5]
  · iexists _; isplitr
    swap; · iexact H5
    ipureintro
    rw [View.read_writes_cons_put _ _ _ _ _ rfl]
    rfl
  iexists _; isplitr
  swap; · iexact H6
  ipureintro
  rw [View.read_writes_cons_put _ _ _ _ _ rfl]
  rfl

/-- What runs before the loop: the anchors copied in and the counts copied over. -/
def emaFill (arg7 : DmaSems sig S_) : Prog (TpuEff nD τ sig (Elt F) Λ₀ .tc) PUnit := do
  Prog.lift (.enqueueDma arg3 (.here arg5) (.dma arg7.sem) harg3.wordExact harg5.wordExact ⟨Or.inl rfl, trivial⟩)
  Prog.lift (.waitDma2 arg7.sem arg3 arg5 harg3.wordExact harg5.wordExact)
  let v0 : Vec F S8192x1 .f32 ← Prog.lift (.load arg4 (Rect.unit (s := S8192x1) ![0, 0] S8192x1.size inb_S8192x1_S8192x1_0_0).toLoadRect (View.loadsAt_vmem h_S8192x1))
  let _ : Vec F S8192x1 .f32 ← Prog.lift (.load arg6 (Rect.unit (s := S8192x1) ![0, 0] S8192x1.size inb_S8192x1_S8192x1_0_0).toLoadRect (View.loadsAt_vmem h_S8192x1))
  Prog.lift (.store arg6 (Rect.unit (s := S8192x1) ![0, 0] S8192x1.size inb_S8192x1_S8192x1_0_0) (k2_pay1 v0) Finset.univ (View.stores_vmem_bits_univ h_S8192x1 rfl) (.inl rfl))
  pure ⟨⟩

/-- The body is that, then the counted loop. -/
theorem ema_body_eq (arg7 : DmaSems sig S_) :
    cc2__ema_body (F := F) i arg1 harg1 arg2 harg2 arg3 harg3 arg4 harg4 arg5 harg5 arg6 harg6 arg7
      = (emaFill (F := F) arg3 harg3 arg4 arg5 harg5 arg6 arg7 >>= fun _ =>
          Scf.for k2_t1_loop.lb k2_t1_loop.ub k2_t1_loop.st k2_t1_ok ()
            (k2_t1_body (F := F) i arg1 harg1 arg2 harg2 arg3 harg3 arg4 harg4 arg5 harg5 arg6 harg6 arg7) >>= fun _ => pure ⟨⟩) := by
  simp only [cc2__ema_body_eq_skeleton]; unfold cc2__ema_body_skel emaFill
  rfl

set_option maxHeartbeats 1000000 in
/-- What runs before the loop leaves the anchors in the first output's buffer and the counts in the other's. -/
theorem ema_fill (a : Vec F S8192x256 .f32) (n : Vec F S8192x1 .f32) (W : Waits sig Unit) (K : PUnit → sProp 𝕄)
    (f3 : Buf (Elt F) (arg3.view.loc (c : Thread nD τ))) (hf3 : arg3.view.read (Elt F) f3 = a) :
    iprop((arg3.view.loc (c : Thread nD τ) ↦{fullShare} f3) ∗ owns (c : Thread nD τ) arg4 fullShare n
        ∗ (∃ d, owns (c : Thread nD τ) arg5 fullShare d) ∗ (∃ d, owns (c : Thread nD τ) arg6 fullShare d)
        ∗ semVal ((c : Thread nD τ), SemLoc.dma 16) 0 ∗ owes (c : Thread nD τ) 0 W
        ∗ (iprop((arg3.view.loc (c : Thread nD τ) ↦{fullShare} f3) ∗ owns (c : Thread nD τ) arg4 fullShare n
            ∗ owns (c : Thread nD τ) arg5 fullShare a ∗ owns (c : Thread nD τ) arg6 fullShare (k2_pay1 n)
            ∗ semVal ((c : Thread nD τ), SemLoc.dma 16) 0 ∗ (∃ W', owes (c : Thread nD τ) 0 W')) -∗ K ⟨⟩))
      ⊢ wp frame (wpE (defs₀ (F := F)) Variants.none c none) Set.univ (emaFill (F := F) arg3 harg3 arg4 arg5 harg5 arg6 cc2_scratch0) K := by
  unfold emaFill
  unfold owns
  iintro ⟨H3, ⟨%f4, %hf4, H4⟩, ⟨%d5, %f5, -, H5⟩, ⟨%d6, %f6, -, H6⟩, Hs, HO, Hk⟩
  subst hf4 hf3
  sl_exec
  sl_step
  iapply Hk
  isplitl [H3]; · iexact H3
  isplitl [H4]
  · iexists f4; isplitr; · ipureintro; rfl
    iexact H4
  isplitl [H5]
  · iexists _; isplitr
    swap; · iexact H5
    ipureintro
    funext y
    have h := View.read_writes_cons_emb arg5.view f5 (Rect.whole S8192x256) (arg3.view.read (Elt F) f3) [] y
    rw [Rect.emb_whole_apply] at h
    exact h
  isplitl [H6]
  · iexists _; isplitr
    swap; · iexact H6
    ipureintro
    rw [View.read_writes_full, View.readAt_full]
  isplitl [Hs]; · iexact Hs
  iexists _; iexact HO

set_option maxHeartbeats 1000000 in
/-- The whole body, from the ids `x`, the descriptors `d`, the anchors `a` and the counts `n`, all ids naming anchors:
    it leaves the anchors and counts after all the trips. -/
theorem ema_body (x : Vec F S512x1 .i32) (d : Vec F S512x256 .f32) (hin : ∀ k, k2_chk1 (idAt (F := F) x k))
    (a : Vec F S8192x256 .f32) (n : Vec F S8192x1 .f32) (W : Waits sig Unit) (K : PUnit → sProp 𝕄)
    (f3 : Buf (Elt F) (arg3.view.loc (c : Thread nD τ))) (hf3 : arg3.view.read (Elt F) f3 = a) :
    iprop(owns (c : Thread nD τ) arg1 fullShare x ∗ owns (c : Thread nD τ) arg2 fullShare d
        ∗ (arg3.view.loc (c : Thread nD τ) ↦{fullShare} f3) ∗ owns (c : Thread nD τ) arg4 fullShare n
        ∗ (∃ d, owns (c : Thread nD τ) arg5 fullShare d) ∗ (∃ d, owns (c : Thread nD τ) arg6 fullShare d)
        ∗ semVal ((c : Thread nD τ), SemLoc.dma 16) 0 ∗ owes (c : Thread nD τ) 0 W
        ∗ (iprop(owns (c : Thread nD τ) arg1 fullShare x ∗ owns (c : Thread nD τ) arg2 fullShare d
            ∗ (arg3.view.loc (c : Thread nD τ) ↦{fullShare} f3) ∗ owns (c : Thread nD τ) arg4 fullShare n
            ∗ owns (c : Thread nD τ) arg5 fullShare (emaRun x d hin (a, k2_pay1 n) k2_t1_loop.trips).1
            ∗ owns (c : Thread nD τ) arg6 fullShare (emaRun x d hin (a, k2_pay1 n) k2_t1_loop.trips).2
            ∗ semVal ((c : Thread nD τ), SemLoc.dma 16) 0 ∗ (∃ W', owes (c : Thread nD τ) 0 W')) -∗ K ⟨⟩))
      ⊢ wp frame (wpE (defs₀ (F := F)) Variants.none c none) Set.univ
          (cc2__ema_body (F := F) i arg1 harg1 arg2 harg2 arg3 harg3 arg4 harg4 arg5 harg5 arg6 harg6 cc2_scratch0) K := by
  rw [ema_body_eq, wp_bind]
  iintro ⟨H1, H2, H3, H4, H5, H6, Hs, HO, Hk⟩
  iapply (ema_fill c arg3 harg3 arg4 arg5 harg5 arg6 a n W _ f3 hf3)
  isplitl [H3]; · iexact H3
  isplitl [H4]; · iexact H4
  isplitl [H5]; · iexact H5
  isplitl [H6]; · iexact H6
  isplitl [Hs]; · iexact Hs
  isplitl [HO]; · iexact HO
  iintro ⟨H3, H4, H5, H6, Hs, HO⟩
  rw [wp_bind]
  iapply (Scf.wp_for frame (wpE (defs₀ (F := F)) Variants.none (c : Thread nD τ) none) Set.univ k2_t1_loop.lb k2_t1_loop.ub k2_t1_loop.st k2_t1_ok ()
    (k2_t1_body (F := F) i arg1 harg1 arg2 harg2 arg3 harg3 arg4 harg4 arg5 harg5 arg6 harg6 cc2_scratch0)
    (fun k _ => iprop(owns (c : Thread nD τ) arg1 fullShare x ∗ owns (c : Thread nD τ) arg2 fullShare d
      ∗ owns (c : Thread nD τ) arg5 fullShare (emaRun x d hin (a, k2_pay1 n) k).1
      ∗ owns (c : Thread nD τ) arg6 fullShare (emaRun x d hin (a, k2_pay1 n) k).2))
    (fun k _ => by
      rw [emaRun_succ]
      exact ema_trip c i arg1 harg1 arg2 harg2 arg3 harg3 arg4 harg4 arg5 harg5 arg6 harg6 cc2_scratch0 Set.univ x d hin k _))
  isplitl [H1 H2 H5 H6]
  · isplitl [H1]; · iexact H1
    isplitl [H2]; · iexact H2
    isplitl [H5]; · iexact H5
    iexact H6
  iintro %acc ⟨H1, H2, H5, H6⟩
  sl_step
  iapply Hk
  isplitl [H1]; · iexact H1
  isplitl [H2]; · iexact H2
  isplitl [H3]; · iexact H3
  isplitl [H4]; · iexact H4
  isplitl [H5]; · iexact H5
  isplitl [H6]; · iexact H6
  isplitl [Hs]; · iexact Hs
  iexact HO

end Body

end Cert.KernelIdeal.Hand

end
-- ==== Proof.Data.lean ====
/- The three pallas_calls' proof data, each over the contents its region is entered at, and their body obligations. -/
module

public import proofs.«01_k».proof.Proof.BodyPool
public import proofs.«01_k».proof.Proof.BodyAssign
public import proofs.«01_k».proof.Proof.BodyEma

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (Pipeline.UD sig nD τ) ℕ

/-- The contents of every core's buffers. -/
abbrev Vals (F : FTy → Type) : Type := Dev nD → Valuation τ sig (Elt F)

variable (W : Vals F)

/-! ## The first region -/

/-- Window `w`'s block at point `t`, read off the contents the region is entered at. -/
def blk0 (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The input's buffer keeps its block; the outputs' hold the pooled rows once and twice normalized. -/
def dat0 (c : Dev nD) : Dat τ (Elt F) Unit ℕ (Pipeline.UD sig nD τ) ℕ cfg0 c where
  A w := W c (Proc.devRef .tc (Pipeline.arrRef spec0 w))
  after w t := match w with
    | ⟨0, _⟩ => blk0 W c 0 t
    | ⟨1, _⟩ => k0_pay1 (blk0 W c 0 t)
    | ⟨2, _⟩ => k0_pay2 (blk0 W c 0 t)
  Φ _ := Pipeline.scopedRest spec0 c
  q _ := fullShare
  owed _ := 0

/-- The first region's arrays are as it finds them. -/
theorem dat0_A (c : Dev nD) (w : Fin cfg0.W) : (dat0 W c).A w = W c (Proc.devRef .tc (Pipeline.arrRef spec0 w)) := by dsimp only [dat0]
/-- A point of the first region leaves its group of prompts. -/
theorem dat0_after0 (c : Dev nD) (t : Fin cfg0.N) : (dat0 W c).after 0 t = blk0 W c 0 t := by dsimp only [dat0]
/-- A point of the first region leaves its descriptors in the first output. -/
theorem dat0_after1 (c : Dev nD) (t : Fin cfg0.N) : (dat0 W c).after 1 t = k0_pay1 (blk0 W c 0 t) := by dsimp only [dat0]
/-- A point of the first region leaves its descriptors normalised again in the second output. -/
theorem dat0_after2 (c : Dev nD) (t : Fin cfg0.N) : (dat0 W c).after 2 t = k0_pay2 (blk0 W c 0 t) := by dsimp only [dat0]

/-- A point of the first region finds its group of prompts. -/
theorem dat0_before0 (c : Dev nD) (t : Fin cfg0.N) (d) : (dat0 W c).before 0 t d = blk0 W c 0 t :=
  ((dat0 W c).before_in_eq_fetched 0 rfl (fun _ => rfl) (fun _ _ _ => rfl)
    (fun t => by rw [dat0_after0]; unfold Dat.blockOf blk0; rw [dat0_A]; try rfl) t d).trans
    (by unfold Dat.fetched Dat.blockOf blk0; rw [dat0_A]; try rfl)

/-- The body at any point of the first region. -/
theorem sound0 (c : Dev nD) (t : Fin cfg0.N) :
    iprop((dat0 W c).Φ t.castSucc ∗ (dat0 W c).owesAt () t.castSucc
      ∗ (∃ d, owns (c : Thread nD τ) (st0_0 t) fullShare ((dat0 W c).before 0 t d))
      ∗ (∃ d, owns (c : Thread nD τ) (st0_1 t) fullShare ((dat0 W c).before 1 t d))
      ∗ (∃ d, owns (c : Thread nD τ) (st0_2 t) fullShare ((dat0 W c).before 2 t d)))
    ⊢ wp frame (wpE (defs₀ (F := F)) Variants.none c none) Set.univ (bodyAt0 t) (fun _ =>
      iprop((dat0 W c).Φ t.succ ∗ (dat0 W c).owesAt () t.succ ∗ (dat0 W c).leavesExact 0 t ∗ (dat0 W c).leavesExact 1 t ∗ (dat0 W c).leavesExact 2 t)) := by
  unfold bodyAt0
  simp only [dat0_before0]
  rw [show (dat0 W c).Φ t.succ = (dat0 W c).Φ t.castSucc from rfl,
    show (dat0 W c).owesAt () t.succ = (dat0 W c).owesAt () t.castSucc from rfl]
  rw [show (dat0 W c).leavesExact 0 t = owns (c : Thread nD τ) (st0_0 t) fullShare ((dat0 W c).after 0 t) from rfl, dat0_after0,
    show (dat0 W c).leavesExact 1 t = owns (c : Thread nD τ) (st0_1 t) fullShare ((dat0 W c).after 1 t) from rfl, dat0_after1,
    show (dat0 W c).leavesExact 2 t = owns (c : Thread nD τ) (st0_2 t) fullShare ((dat0 W c).after 2 t) from rfl, dat0_after2]
  iintro ⟨HΦ, Ho, ⟨%d0, H0⟩, ⟨%d1, H1⟩, ⟨%d2, H2⟩⟩
  iapply (pool_body c Set.univ (grid0.coords t) _ _ _ _ _ _ (blk0 W c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The first region's body is the body proved above. -/
theorem row0 (t : Fin cfg0.N) : defs₀ (F := F) .tc cfg0.body (cfg0.bodyArgs t (cfg0.slots t)) = bodyAt0 t := by
  unfold defs₀; rw [Defs.onTc_tc]

/-- The first region's body does at every point what its proof data say. -/
theorem obl0 (c : Dev nD) : BodyObligation (dat0 W c) (defs₀ (F := F)) Variants.none () Set.univ := fun t => by
  rw [bigSep_W0, bigSep_W0, row0]
  exact triple_restated (sound0 W c t) rfl .rfl fun _ => .rfl

/-! ## The second region -/

/-- Window `w`'s block at point `t`, read off the contents the region is entered at. -/
def blk1 (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The running places and minima after point `n`. -/
def asg (c : Dev nD) : (n : ℕ) → n < cfg1.N → Vec F S512x1 .i32 × Vec F S512x1 .f32
  | 0, h => (k1_pay3 (grid1.coords ⟨0, h⟩) (blk1 W c 0 ⟨0, h⟩) (blk1 W c 1 ⟨0, h⟩), k1_pay2 (blk1 W c 0 ⟨0, h⟩) (blk1 W c 1 ⟨0, h⟩))
  | n + 1, h =>
    (k1_pay7 (grid1.coords ⟨n + 1, h⟩) (blk1 W c 0 ⟨n + 1, h⟩) (blk1 W c 1 ⟨n + 1, h⟩) (asg c n (Nat.lt_of_succ_lt h)).2 (asg c n (Nat.lt_of_succ_lt h)).1,
      k1_pay6 (blk1 W c 0 ⟨n + 1, h⟩) (blk1 W c 1 ⟨n + 1, h⟩) (asg c n (Nat.lt_of_succ_lt h)).2)

/-- The assignment after the first group of anchors. -/
theorem asg_first (c : Dev nD) (t : Fin cfg1.N) (h : t.val = 0) :
    asg W c t.val t.isLt = (k1_pay3 (grid1.coords t) (blk1 W c 0 t) (blk1 W c 1 t), k1_pay2 (blk1 W c 0 t) (blk1 W c 1 t)) := by
  obtain ⟨n, hn⟩ := t; subst h; rfl

/-- The assignment after a later group of anchors, from the one before it. -/
theorem asg_later (c : Dev nD) (t : Fin cfg1.N) (h : t.val ≠ 0) (hn : t.val - 1 < cfg1.N) :
    asg W c t.val t.isLt = (k1_pay7 (grid1.coords t) (blk1 W c 0 t) (blk1 W c 1 t) (asg W c (t.val - 1) hn).2 (asg W c (t.val - 1) hn).1,
      k1_pay6 (blk1 W c 0 t) (blk1 W c 1 t) (asg W c (t.val - 1) hn).2) := by
  obtain ⟨n, hn⟩ := t
  cases n with
  | zero => exact absurd rfl h
  | succ n => rfl

/-- The inputs' buffers keep their blocks; the outputs' hold the running places and minima. -/
def dat1 (c : Dev nD) : Dat τ (Elt F) Unit ℕ (Pipeline.UD sig nD τ) ℕ cfg1 c where
  A w := W c (Proc.devRef .tc (Pipeline.arrRef spec1 w))
  after w t := match w with
    | ⟨0, _⟩ => blk1 W c 0 t
    | ⟨1, _⟩ => blk1 W c 1 t
    | ⟨2, _⟩ => (asg W c t.val t.isLt).1
    | ⟨3, _⟩ => (asg W c t.val t.isLt).2
  Φ _ := Pipeline.scopedRest spec1 c
  q _ := fullShare
  owed _ := 0

/-- The second region's arrays are as it finds them. -/
theorem dat1_A (c : Dev nD) (w : Fin cfg1.W) : (dat1 W c).A w = W c (Proc.devRef .tc (Pipeline.arrRef spec1 w)) := by dsimp only [dat1]
/-- A point of the second region leaves the descriptors. -/
theorem dat1_after0 (c : Dev nD) (t : Fin cfg1.N) : (dat1 W c).after 0 t = blk1 W c 0 t := by dsimp only [dat1]
/-- A point of the second region leaves its group of anchors. -/
theorem dat1_after1 (c : Dev nD) (t : Fin cfg1.N) : (dat1 W c).after 1 t = blk1 W c 1 t := by dsimp only [dat1]
/-- A point of the second region leaves the ids so far. -/
theorem dat1_after2 (c : Dev nD) (t : Fin cfg1.N) : (dat1 W c).after 2 t = (asg W c t.val t.isLt).1 := by dsimp only [dat1]
/-- A point of the second region leaves the least distances so far. -/
theorem dat1_after3 (c : Dev nD) (t : Fin cfg1.N) : (dat1 W c).after 3 t = (asg W c t.val t.isLt).2 := by dsimp only [dat1]

/-- A point of the second region finds the descriptors. -/
theorem dat1_before0 (c : Dev nD) (t : Fin cfg1.N) (d) : (dat1 W c).before 0 t d = blk1 W c 0 t :=
  ((dat1 W c).before_in_eq_fetched 0 rfl (fun _ => rfl) (fun _ _ _ => rfl)
    (fun t => by rw [dat1_after0]; unfold Dat.blockOf blk1; rw [dat1_A]; try rfl) t d).trans
    (by unfold Dat.fetched Dat.blockOf blk1; rw [dat1_A]; try rfl)
/-- A point of the second region finds its group of anchors. -/
theorem dat1_before1 (c : Dev nD) (t : Fin cfg1.N) (d) : (dat1 W c).before 1 t d = blk1 W c 1 t :=
  ((dat1 W c).before_in_eq_fetched 1 rfl (fun _ => rfl) (fun _ _ _ => rfl)
    (fun t => by rw [dat1_after1]; unfold Dat.blockOf blk1; rw [dat1_A]; try rfl) t d).trans
    (by unfold Dat.fetched Dat.blockOf blk1; rw [dat1_A]; try rfl)

/-- Every point of the second region uses the ids. -/
theorem live1_2 : ∀ t : Fin grid1.N, cfg1.idle 2 (grid1.coords t) = false := by decide +kernel
/-- Every point of the second region uses the least distances. -/
theorem live1_3 : ∀ t : Fin grid1.N, cfg1.idle 3 (grid1.coords t) = false := by decide +kernel

/-- The ids are not sent out before the last point. -/
theorem flush1_2_prev (t : Fin cfg1.N) (ht : t.val ≠ 0) (h : t.val - 1 < cfg1.N) : (cfg1.win 2).flush ⟨t.val - 1, h⟩ = false := by
  have hN : t.val < 8 := lt_of_lt_of_eq t.isLt N_1
  exact Bool.eq_false_iff.mpr fun e => by have := (flush1_2 ⟨t.val - 1, h⟩).mp e; dsimp only at this; omega
/-- The least distances are not sent out before the last point. -/
theorem flush1_3_prev (t : Fin cfg1.N) (ht : t.val ≠ 0) (h : t.val - 1 < cfg1.N) : (cfg1.win 3).flush ⟨t.val - 1, h⟩ = false := by
  have hN : t.val < 8 := lt_of_lt_of_eq t.isLt N_1
  exact Bool.eq_false_iff.mpr fun e => by have := (flush1_3 ⟨t.val - 1, h⟩).mp e; dsimp only at this; omega

/-- A later point of the second region finds the ids that the point before it left. -/
theorem dat1_before2 (c : Dev nD) (t : Fin cfg1.N) (ht : t.val ≠ 0) (d) :
    (dat1 W c).before 2 t d = (asg W c (t.val - 1) (Nat.lt_of_le_of_lt (Nat.sub_le _ _) t.isLt)).1 := by
  rw [(dat1 W c).before_of_pos 2 t ht ((cfg1.win 2).fetch_out rfl t), flush1_2_prev t ht, if_neg Bool.false_ne_true]
  unfold Dat.left; rw [live1_2]
  dsimp only
  unfold Dat.kept
  rw [Pipeline.fill_of_clip_none (cfg := cfg1) 2 _ (fun _ => rfl) d ((dat1 W c).after 2 _), Window.fill_cut, dat1_after2]
/-- A later point of the second region finds the least distances that the point before it left. -/
theorem dat1_before3 (c : Dev nD) (t : Fin cfg1.N) (ht : t.val ≠ 0) (d) :
    (dat1 W c).before 3 t d = (asg W c (t.val - 1) (Nat.lt_of_le_of_lt (Nat.sub_le _ _) t.isLt)).2 := by
  rw [(dat1 W c).before_of_pos 3 t ht ((cfg1.win 3).fetch_out rfl t), flush1_3_prev t ht, if_neg Bool.false_ne_true]
  unfold Dat.left; rw [live1_3]
  dsimp only
  unfold Dat.kept
  rw [Pipeline.fill_of_clip_none (cfg := cfg1) 3 _ (fun _ => rfl) d ((dat1 W c).after 3 _), Window.fill_cut, dat1_after3]

/-- The body at any point of the second region. -/
theorem sound1 (c : Dev nD) (t : Fin cfg1.N) :
    iprop((dat1 W c).Φ t.castSucc ∗ (dat1 W c).owesAt () t.castSucc
      ∗ (∃ d, owns (c : Thread nD τ) (st1_0 t) fullShare ((dat1 W c).before 0 t d))
      ∗ (∃ d, owns (c : Thread nD τ) (st1_1 t) fullShare ((dat1 W c).before 1 t d))
      ∗ (∃ d, owns (c : Thread nD τ) (st1_2 t) fullShare ((dat1 W c).before 2 t d))
      ∗ (∃ d, owns (c : Thread nD τ) (st1_3 t) fullShare ((dat1 W c).before 3 t d)))
    ⊢ wp frame (wpE (defs₀ (F := F)) Variants.none c none) Set.univ (bodyAt1 t) (fun _ =>
      iprop((dat1 W c).Φ t.succ ∗ (dat1 W c).owesAt () t.succ ∗ (dat1 W c).leavesExact 0 t ∗ (dat1 W c).leavesExact 1 t
        ∗ (dat1 W c).leavesExact 2 t ∗ (dat1 W c).leavesExact 3 t)) := by
  unfold bodyAt1
  simp only [dat1_before0, dat1_before1]
  rw [show (dat1 W c).Φ t.succ = (dat1 W c).Φ t.castSucc from rfl,
    show (dat1 W c).owesAt () t.succ = (dat1 W c).owesAt () t.castSucc from rfl]
  rw [show (dat1 W c).leavesExact 0 t = owns (c : Thread nD τ) (st1_0 t) fullShare ((dat1 W c).after 0 t) from rfl, dat1_after0,
    show (dat1 W c).leavesExact 1 t = owns (c : Thread nD τ) (st1_1 t) fullShare ((dat1 W c).after 1 t) from rfl, dat1_after1,
    show (dat1 W c).leavesExact 2 t = owns (c : Thread nD τ) (st1_2 t) fullShare ((dat1 W c).after 2 t) from by
      unfold Dat.leavesExact; rw [live1_2 t], dat1_after2,
    show (dat1 W c).leavesExact 3 t = owns (c : Thread nD τ) (st1_3 t) fullShare ((dat1 W c).after 3 t) from by
      unfold Dat.leavesExact; rw [live1_3 t], dat1_after3]
  by_cases h0 : t.val = 0
  · rw [asg_first W c t h0]
    iintro ⟨HΦ, Ho, ⟨%d0, H0⟩, ⟨%d1, H1⟩, ⟨%d2, H2⟩, ⟨%d3, H3⟩⟩
    iapply (assign_body_first c Set.univ (grid1.coords t) _ _ _ _ _ _ _ _ ((cond_first t).mpr h0) (fun h => (cond_later t).mp h h0) (blk1 W c 0 t) (blk1 W c 1 t) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [asg_later W c t h0 (Nat.lt_of_le_of_lt (Nat.sub_le _ _) t.isLt)]
    simp only [dat1_before2 W c t h0, dat1_before3 W c t h0]
    iintro ⟨HΦ, Ho, ⟨%d0, H0⟩, ⟨%d1, H1⟩, ⟨%d2, H2⟩, ⟨%d3, H3⟩⟩
    iapply (assign_body_later c Set.univ (grid1.coords t) _ _ _ _ _ _ _ _ (fun h => h0 ((cond_first t).mp h)) ((cond_later t).mpr h0) (blk1 W c 0 t) (blk1 W c 1 t) _ _ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The second region's body is the body proved above. -/
theorem row1 (t : Fin cfg1.N) : defs₀ (F := F) .tc cfg1.body (cfg1.bodyArgs t (cfg1.slots t)) = bodyAt1 t := by
  unfold defs₀; rw [Defs.onTc_tc]

/-- The second region's body does at every point what its proof data say. -/
theorem obl1 (c : Dev nD) : BodyObligation (dat1 W c) (defs₀ (F := F)) Variants.none () Set.univ := fun t => by
  rw [bigSep_W1, bigSep_W1, row1]
  exact triple_restated (sound1 W c t) rfl .rfl fun _ => .rfl

/-! ## The third region -/

/-- Window `w`'s block at point `t`, read off the contents the region is entered at. -/
def blk2 (c : Dev nD) (w : Fin cfg2.W) (t : Fin cfg2.N) : ((cfg2.win w).xblock (cfg2.grid.coords t)).Idx → Elt F (cfg2.win w).elt :=
  ((cfg2.win w).blk t).view.read (Elt F) (W c (Proc.devRef .tc (Pipeline.arrRef spec2 w)))

/-- The anchors as the third region finds them. -/
def anchorsAt (c : Dev nD) : Vec F S8192x256 .f32 := (Memref.whole main_arg1 : Memref sig .tc .hbm S8192x256 .f32).view.read (Elt F) (W c main_arg1)

open scoped Classical in
/-- The anchors and counts after all the trips, when every id names an anchor. -/
def emaEnd (x : Vec F S512x1 .i32) (d : Vec F S512x256 .f32) (s : Bank F) : Bank F :=
  if hin : ∀ k, k2_chk1 (idAt (F := F) x k) then emaRun x d hin s k2_t1_loop.trips else s

/-- With every id naming an anchor, the two arrays end as the loop's trips leave them. -/
theorem emaEnd_of (x : Vec F S512x1 .i32) (d : Vec F S512x256 .f32) (s : Bank F) (hin : ∀ k, k2_chk1 (idAt (F := F) x k)) :
    emaEnd x d s = emaRun x d hin s k2_t1_loop.trips := dif_pos hin

/-- The inputs' buffers keep their blocks; the outputs' hold the anchors and counts after all the trips. -/
def dat2 (c : Dev nD) : Dat τ (Elt F) Unit ℕ (Pipeline.UD sig nD τ) ℕ cfg2 c where
  A w := W c (Proc.devRef .tc (Pipeline.arrRef spec2 w))
  after w t := match w with
    | ⟨0, _⟩ => blk2 W c 0 t
    | ⟨1, _⟩ => blk2 W c 1 t
    | ⟨2, _⟩ => blk2 W c 2 t
    | ⟨3, _⟩ => (emaEnd (blk2 W c 0 t) (blk2 W c 1 t) (anchorsAt W c, k2_pay1 (blk2 W c 2 t))).1
    | ⟨4, _⟩ => (emaEnd (blk2 W c 0 t) (blk2 W c 1 t) (anchorsAt W c, k2_pay1 (blk2 W c 2 t))).2
  Φ _ := iprop(Pipeline.scopedRest spec2 c ∗ (((c : Thread nD τ).loc main_arg1) ↦{fullShare} W c main_arg1) ∗ semVal ((c : Thread nD τ), SemLoc.dma 16) 0)
  q _ := fullShare
  owed _ := 0

/-- The third region's arrays are as it finds them. -/
theorem dat2_A (c : Dev nD) (w : Fin cfg2.W) : (dat2 W c).A w = W c (Proc.devRef .tc (Pipeline.arrRef spec2 w)) := by dsimp only [dat2]
/-- The third region leaves the ids. -/
theorem dat2_after0 (c : Dev nD) (t : Fin cfg2.N) : (dat2 W c).after 0 t = blk2 W c 0 t := by dsimp only [dat2]
/-- The third region leaves the descriptors. -/
theorem dat2_after1 (c : Dev nD) (t : Fin cfg2.N) : (dat2 W c).after 1 t = blk2 W c 1 t := by dsimp only [dat2]
/-- The third region leaves the counts it reads. -/
theorem dat2_after2 (c : Dev nD) (t : Fin cfg2.N) : (dat2 W c).after 2 t = blk2 W c 2 t := by dsimp only [dat2]
/-- The third region leaves the updated anchors. -/
theorem dat2_after3 (c : Dev nD) (t : Fin cfg2.N) : (dat2 W c).after 3 t =
    (emaEnd (blk2 W c 0 t) (blk2 W c 1 t) (anchorsAt W c, k2_pay1 (blk2 W c 2 t))).1 := by dsimp only [dat2]
/-- The third region leaves the updated counts. -/
theorem dat2_after4 (c : Dev nD) (t : Fin cfg2.N) : (dat2 W c).after 4 t =
    (emaEnd (blk2 W c 0 t) (blk2 W c 1 t) (anchorsAt W c, k2_pay1 (blk2 W c 2 t))).2 := by dsimp only [dat2]

/-- The third region finds the ids. -/
theorem dat2_before0 (c : Dev nD) (t : Fin cfg2.N) (d) : (dat2 W c).before 0 t d = blk2 W c 0 t :=
  ((dat2 W c).before_in_eq_fetched 0 rfl (fun _ => rfl) (fun _ _ _ => rfl)
    (fun t => by rw [dat2_after0]; unfold Dat.blockOf blk2; rw [dat2_A]; try rfl) t d).trans
    (by unfold Dat.fetched Dat.blockOf blk2; rw [dat2_A]; try rfl)
/-- The third region finds the descriptors. -/
theorem dat2_before1 (c : Dev nD) (t : Fin cfg2.N) (d) : (dat2 W c).before 1 t d = blk2 W c 1 t :=
  ((dat2 W c).before_in_eq_fetched 1 rfl (fun _ => rfl) (fun _ _ _ => rfl)
    (fun t => by rw [dat2_after1]; unfold Dat.blockOf blk2; rw [dat2_A]; try rfl) t d).trans
    (by unfold Dat.fetched Dat.blockOf blk2; rw [dat2_A]; try rfl)
/-- The third region finds the counts. -/
theorem dat2_before2 (c : Dev nD) (t : Fin cfg2.N) (d) : (dat2 W c).before 2 t d = blk2 W c 2 t :=
  ((dat2 W c).before_in_eq_fetched 2 rfl (fun _ => rfl) (fun _ _ _ => rfl)
    (fun t => by rw [dat2_after2]; unfold Dat.blockOf blk2; rw [dat2_A]; try rfl) t d).trans
    (by unfold Dat.fetched Dat.blockOf blk2; rw [dat2_A]; try rfl)

/-- The body at the third region's point, every id naming an anchor. -/
theorem sound2 (hin : ∀ c t k, k2_chk1 (idAt (F := F) (blk2 W c 0 t) k)) (c : Dev nD) (t : Fin cfg2.N) :
    iprop((dat2 W c).Φ t.castSucc ∗ (dat2 W c).owesAt () t.castSucc
      ∗ (∃ d, owns (c : Thread nD τ) (st2_0 t) fullShare ((dat2 W c).before 0 t d))
      ∗ (∃ d, owns (c : Thread nD τ) (st2_1 t) fullShare ((dat2 W c).before 1 t d))
      ∗ (∃ d, owns (c : Thread nD τ) (st2_2 t) fullShare ((dat2 W c).before 2 t d))
      ∗ (∃ d, owns (c : Thread nD τ) (st2_3 t) fullShare ((dat2 W c).before 3 t d))
      ∗ (∃ d, owns (c : Thread nD τ) (st2_4 t) fullShare ((dat2 W c).before 4 t d)))
    ⊢ wp frame (wpE (defs₀ (F := F)) Variants.none c none) Set.univ (bodyAt2 t) (fun _ =>
      iprop((dat2 W c).Φ t.succ ∗ (dat2 W c).owesAt () t.succ ∗ (dat2 W c).leavesExact 0 t ∗ (dat2 W c).leavesExact 1 t
        ∗ (dat2 W c).leavesExact 2 t ∗ (dat2 W c).leavesExact 3 t ∗ (dat2 W c).leavesExact 4 t)) := by
  unfold bodyAt2
  simp only [dat2_before0, dat2_before1, dat2_before2]
  rw [show (dat2 W c).leavesExact 0 t = owns (c : Thread nD τ) (st2_0 t) fullShare ((dat2 W c).after 0 t) from rfl, dat2_after0,
    show (dat2 W c).leavesExact 1 t = owns (c : Thread nD τ) (st2_1 t) fullShare ((dat2 W c).after 1 t) from rfl, dat2_after1,
    show (dat2 W c).leavesExact 2 t = owns (c : Thread nD τ) (st2_2 t) fullShare ((dat2 W c).after 2 t) from rfl, dat2_after2,
    show (dat2 W c).leavesExact 3 t = owns (c : Thread nD τ) (st2_3 t) fullShare ((dat2 W c).after 3 t) from rfl, dat2_after3,
    show (dat2 W c).leavesExact 4 t = owns (c : Thread nD τ) (st2_4 t) fullShare ((dat2 W c).after 4 t) from rfl, dat2_after4]
  rw [emaEnd_of _ _ _ (hin c t)]
  have hΦ : ∀ j, (dat2 W c).Φ j = iprop(Pipeline.scopedRest spec2 c ∗ (((c : Thread nD τ).loc main_arg1) ↦{fullShare} W c main_arg1) ∗ semVal ((c : Thread nD τ), SemLoc.dma 16) 0) :=
    fun _ => rfl
  rw [hΦ, hΦ]
  unfold Dat.owesAt Pipeline.owesWithin
  rw [show (dat2 W c).owed t.castSucc = 0 from rfl, show (dat2 W c).owed t.succ = 0 from rfl]
  iintro ⟨⟨Hr, Ha, Hs⟩, ⟨%Wd, %hWd, Ho⟩, ⟨%d0, H0⟩, ⟨%d1, H1⟩, ⟨%d2, H2⟩, ⟨%d3, H3⟩, ⟨%d4, H4⟩⟩
  iapply (ema_body c (grid2.coords t) _ _ _ _ (Memref.whole main_arg1) _ _ _ _ _ _ _ (blk2 W c 0 t) (blk2 W c 1 t) (hin c t) (anchorsAt W c) (blk2 W c 2 t) Wd _ (W c main_arg1) rfl)
  isplitl [H0]; · iexact H0
  isplitl [H1]; · iexact H1
  isplitl [Ha]; · iexact Ha
  isplitl [H2]; · iexact H2
  isplitl [H3]; · iexists _; iexact H3
  isplitl [H4]; · iexists _; iexact H4
  isplitl [Hs]; · iexact Hs
  isplitl [Ho]; · iexact Ho
  iintro ⟨H0, H1, Ha, H2, H3, H4, Hs, ⟨%Wd', Ho⟩⟩
  isplitl [Hr Ha Hs]
  · isplitl [Hr]; · iexact Hr
    isplitl [Ha]; · iexact Ha
    iexact Hs
  isplitl [Ho]
  · iexists Wd'; isplitr; · ipureintro; exact fun _ _ => Or.inl trivial
    iexact Ho
  isplitl [H0]; · iexact H0
  isplitl [H1]; · iexact H1
  isplitl [H2]; · iexact H2
  isplitl [H3]; · iexact H3
  iexact H4

/-- The third region's body is the body proved above. -/
theorem row2 (t : Fin cfg2.N) : defs₀ (F := F) .tc cfg2.body (cfg2.bodyArgs t (cfg2.slots t)) = bodyAt2 t := by
  unfold defs₀; rw [Defs.onTc_tc]

/-- The third region's body does what its proof data say, when every id names an anchor. -/
theorem obl2 (hin : ∀ c t k, k2_chk1 (idAt (F := F) (blk2 W c 0 t) k)) (c : Dev nD) :
    BodyObligation (dat2 W c) (defs₀ (F := F)) Variants.none () Set.univ := fun t => by
  rw [bigSep_W2, bigSep_W2, row2]
  exact triple_restated (sound2 W hin c t) rfl .rfl fun _ => .rfl

end Cert.KernelIdeal.Hand

end
-- ==== Proof.Run.lean ====
/- The run of the whole program: its items as segments, the buffers' contents between them, and what every final state holds. -/
module

public import proofs.«01_k».proof.Proof.Data
public import proofs.«01_k».proof.Proof.Gen.KernelIdeal.Regions
public import Idealize.ShloMosaic.Lib.Pipeline.RegionArraysS

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (Pipeline.UD sig nD τ) ℕ

variable (m : (ℓ : Loc nD τ sig) → Buf (Elt F) ℓ)

/-! ## The buffers' contents between the items -/

/-- At launch. -/
def at0 : Vals F := fun c b => m (c, b)
/-- After the first region. -/
def at1 : Vals F := fun c => Pipeline.afterRegion (dat0 (at0 m) c) (at0 m c)
/-- After the second region. -/
def at2 : Vals F := fun c => Pipeline.afterRegion (dat1 (at1 m) c) (at1 m c)
/-- After the counts' reshape. -/
def at3 : Vals F := fun c => StableHlo.after hostOps2 (at2 m c)
/-- After the third region. -/
def at4 : Vals F := fun c => Pipeline.afterRegion (dat2 (at3 m) c) (at3 m c)
/-- At the end. -/
def at5 : Vals F := fun c => StableHlo.after hostOps3 (at4 m c)

/-! ## The segments -/

/-- Every core's levels: the one index, at level zero. -/
abbrev lvls : GSem nD τ sig → Finset Unit := fun g => if g.1.2 = .tc then {()} else ∅
/-- The level of everything. -/
abbrev lvl : GSem nD τ sig → Unit → ℕ := fun _ _ => 0

/-- The three regions' proof data. -/
def pdats : (p : Fin 3) → (c : Dev nD) → Dat τ (Elt F) Unit ℕ (Pipeline.UD sig nD τ) ℕ (Pipeline.pin (pcfgs (F := F)) adm p) c
  | 0 => dat0 (at0 m)
  | 1 => dat1 (at1 m)
  | 2 => dat2 (at3 m)
  | ⟨_ + 3, h⟩ => absurd h (Nat.not_lt.2 (Nat.le_add_left _ _))

/-- What rides beside the buffers: the core's own dues, none. -/
abbrev dues (c : Dev nD) : sProp 𝕄 := iprop(∃ Wd, owes (c : Thread nD τ) (0 : CellTallies nD τ sig Unit) Wd)

/-- No dues: nothing is asked of the levels but that the index is there. -/
theorem cut (p : Fin 3) : Pipeline.LevelCut (pcfgs (F := F)) adm () lvls lvl p (fun _ => 0) (fun _ => 0) where
  hι c w s := by simp [lvls]
  hιb c w s := Nat.le_refl _
  hD c g i h := absurd h (Nat.lt_irrefl _)

set_option backward.isDefEq.respectTransparency.types false in
/-- The first region's segment. -/
def reg0 : RegionSeg (pcfgs (F := F)) adm (pdats m) () defs₀ Variants.none lvls lvl 0 :=
  RegionSeg.ofHeldIn (pcfgs (F := F)) adm (pdats m) () defs₀ Variants.none lvls lvl 0 (fun _ => 0) (Pipeline.ucRefs τ sig)
    (fun _ => iprop(emp)) (fun _ => iprop(emp)) launch0.toP rfl (fun c => (obl0 (at0 m) c).loose) (fun _ _ => rfl) (fun _ => rfl)
    (fun c => (dat0 (at0 m) c).share_full fun _ => rfl)
    (fun c => show iprop(Pipeline.scopedRest spec0 c ∗ emp) ⊢ (Pipeline.scopedRest spec0 c : sProp 𝕄) from by iintro ⟨H, -⟩; iexact H)
    (fun c => show (Pipeline.scopedRest spec0 c : sProp 𝕄) ⊢ iprop(Pipeline.scopedRest spec0 c ∗ emp) from by
      iintro H
      isplitl [H]; · iexact H
      iempintro) (fun _ => 0) (cut 0) (fun _ => iprop(emp)) (at0 m) (fun c w => dat0_A (at0 m) c w)

set_option backward.isDefEq.respectTransparency.types false in
/-- The second region's segment. -/
def reg1 : RegionSeg (pcfgs (F := F)) adm (pdats m) () defs₀ Variants.none lvls lvl 1 :=
  RegionSeg.ofHeldIn (pcfgs (F := F)) adm (pdats m) () defs₀ Variants.none lvls lvl 1 (fun _ => 0) (Pipeline.ucRefs τ sig)
    (fun _ => iprop(emp)) (fun _ => iprop(emp)) launch1.toP rfl (fun c => (obl1 (at1 m) c).loose) (fun _ _ => rfl) (fun _ => rfl)
    (fun c => (dat1 (at1 m) c).share_full fun _ => rfl)
    (fun c => show iprop(Pipeline.scopedRest spec1 c ∗ emp) ⊢ (Pipeline.scopedRest spec1 c : sProp 𝕄) from by iintro ⟨H, -⟩; iexact H)
    (fun c => show (Pipeline.scopedRest spec1 c : sProp 𝕄) ⊢ iprop(Pipeline.scopedRest spec1 c ∗ emp) from by
      iintro H
      isplitl [H]; · iexact H
      iempintro) (fun _ => 0) (cut 1) (fun _ => iprop(emp)) (at1 m) (fun c w => dat1_A (at1 m) c w)

/-- The third region's own semaphore. -/
abbrev osem : Fin 1 → SemLoc sig := fun _ => SemLoc.dma 16

/-- The third region's own semaphore is none of its windows'. -/
theorem ownSemFacts : Pipeline.OwnSemFacts spec2 osem := by decide

/-- The third region's own semaphore at zero, as one counter. -/
theorem ownSems0_eq (c : Dev nD) :
    (Pipeline.ownSems0 (Ix := Unit) (Name := ℕ) (U := Pipeline.UD sig nD τ) (Lvl := ℕ) (Val := Elt F) (τ := τ) osem c : sProp 𝕄)
      = semVal ((c : Thread nD τ), SemLoc.dma 16) 0 :=
  Pipeline.ownSems0_eq_of_list c osem [0] (by decide) (by decide)

/-- The buffers the third region leaves alone, the anchors apart. -/
abbrev aside : Finset (DevRef τ sig) := (Pipeline.ucRefs τ sig \ Pipeline.arrRefs spec2) \ {Proc.devRef .tc main_arg1}

/-- The unscoped buffers are the third region's arrays, the anchors, and the rest. -/
theorem held2_split (c : Dev nD) (V : Valuation τ sig (Elt F)) :
    (StableHlo.held (c : Thread nD τ) (Pipeline.ucRefs τ sig) V : sProp 𝕄)
      = iprop(StableHlo.held (c : Thread nD τ) (Pipeline.arrRefs spec2) V ∗ (((c : Thread nD τ).loc main_arg1) ↦{fullShare} V main_arg1)
          ∗ StableHlo.held (c : Thread nD τ) aside V) := by
  rw [StableHlo.held_sub_split (c : Thread nD τ) (Pipeline.arrRefs_sub_ucRefs spec2 winFacts2.arr_unscoped) V,
    StableHlo.held_sub_split (c : Thread nD τ) (show ({Proc.devRef .tc main_arg1} : Finset (DevRef τ sig)) ⊆ Pipeline.ucRefs τ sig \ Pipeline.arrRefs spec2 from by decide) V]
  congr 2
  unfold StableHlo.held
  rw [BI.bigSep_singleton]

set_option backward.isDefEq.respectTransparency.types false in
/-- The third region's arrays at given contents are its buffers held. -/
theorem arrays2 (c : Dev nD) (V : Valuation τ sig (Elt F)) (G : (w : Fin cfg2.W) → Buf (Elt F) ((cfg2.win w).arr.view.loc (c : Thread nD τ)))
    (hG : ∀ w, G w = V (Pipeline.arrRef spec2 w)) :
    ((pdats m 2 c).arrays G : sProp 𝕄) = StableHlo.held (c : Thread nD τ) (Pipeline.arrRefs spec2) V :=
  Pipeline.arrays_held (pcfgs (F := F)) adm (pdats m) 2 launch2.toP c ((dat2 (at3 m) c).share_full fun _ => rfl) G V hG

set_option backward.isDefEq.respectTransparency.types false in
/-- The third region's segment, every id naming an anchor. -/
def reg2 (hin : ∀ c t k, k2_chk1 (idAt (F := F) (blk2 (at3 m) c 0 t) k)) :
    RegionSeg (pcfgs (F := F)) adm (pdats m) () defs₀ Variants.none lvls lvl 2 where
  win := launch2.win.to₀
  block_pos := launch2.block_pos
  stage_whole := launch2.stage_whole
  K := Fin 1
  osem := osem
  ho := ownSemFacts
  hbody c := (obl2 (at3 m) hin c).loose
  hwaits := Pipeline.hwaits_of_owed_zero _ _ _ _ lvls lvl 2 fun _ _ => rfl
  pre c := iprop(StableHlo.held (c : Thread nD τ) (Pipeline.ucRefs τ sig) (at3 m c) ∗ dues c)
  post c := iprop(StableHlo.held (c : Thread nD τ) (Pipeline.ucRefs τ sig) (at4 m c) ∗ dues c)
  X c := iprop((((c : Thread nD τ).loc main_arg1) ↦{fullShare} at3 m c main_arg1) ∗ semVal ((c : Thread nD τ), SemLoc.dma 16) 0)
  Y c := ((c : Thread nD τ).loc main_arg1) ↦{fullShare} at3 m c main_arg1
  Z c := StableHlo.held (c : Thread nD τ) aside (at3 m c)
  hentry c := by
    have ha := BIBase.Entails.of_eq (arrays2 m c (at3 m c) ((pdats m 2 c).arrAt · 0) (fun w => dat2_A (at3 m) c w)).symm
    rw [held2_split, ownSems0_eq]
    iintro ⟨⟨⟨Ha, H1, Hz⟩, HO⟩, Hs, -⟩
    imodintro
    isplitl [Ha]; · iapply ha; iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wd, HO⟩; iexists Wd; isplitr; · ipureintro; exact fun _ _ => Or.inl trivial
      iexact HO
    isplitl [H1 Hs]
    · isplitl [H1] <;> iassumption
    iexact Hz
  hin c := by
    rw [show (pdats m 2 c).Φ 0 = iprop(Pipeline.scopedRest spec2 c ∗ (((c : Thread nD τ).loc main_arg1) ↦{fullShare} at3 m c main_arg1) ∗ semVal ((c : Thread nD τ), SemLoc.dma 16) 0) from rfl]
    iintro ⟨⟨H1, Hs⟩, -, Hr⟩
    isplitl [Hr]; · iexact Hr
    isplitl [H1] <;> iassumption
  hout c := by
    rw [ownSems0_eq, show (pdats m 2 c).Φ (Fin.last (Pipeline.pin (pcfgs (F := F)) adm 2).N) = iprop(Pipeline.scopedRest spec2 c ∗ (((c : Thread nD τ).loc main_arg1) ↦{fullShare} at3 m c main_arg1) ∗ semVal ((c : Thread nD τ), SemLoc.dma 16) 0) from rfl]
    iintro ⟨Hr, H1, Hs⟩
    isplitl [H1]; · iexact H1
    isplitl [Hs] <;> iassumption
  hexit c := by
    have hoff := Pipeline.afterRegion_off (dat2 (at3 m) c) (at3 m c) (Pipeline.ucRefs τ sig)
    have ha := BIBase.Entails.of_eq (arrays2 m c (at4 m c) ((pdats m 2 c).arrAt · (Pipeline.pin (pcfgs (F := F)) adm 2).N)
      (fun w => (Pipeline.afterRegion_arr (dat2 (at3 m) c) (at3 m c) launch2.win.arr_inj w).symm))
    rw [held2_split,
      show at4 m c (Proc.devRef .tc main_arg1) = at3 m c (Proc.devRef .tc main_arg1) from hoff _ (by decide),
      StableHlo.held_congr (c : Thread nD τ) (S := aside) (V := at4 m c) (V' := at3 m c) (fun b hb => hoff b (Finset.mem_sdiff.mp hb).1)]
    iintro ⟨Ha, HO, HY, HZ⟩
    imodintro
    isplitr [HO]
    · isplitl [Ha]; · iapply ha; iexact Ha
      isplitl [HY] <;> iassumption
    · unfold Pipeline.Dat.owesAt Pipeline.owesWithin
      icases HO with ⟨%Wd, -, HO⟩; iexists Wd; iexact HO

/-- The counts' reshape. -/
def host2 : HostSeg (Ix := Unit) (Name := ℕ) (U := Pipeline.UD sig nD τ) (Lvl := ℕ) (pcfgs (F := F)) defs₀ Variants.none lvls lvl :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (at2 m) dues
/-- The results' reshapes. -/
def host3 : HostSeg (Ix := Unit) (Name := ℕ) (U := Pipeline.UD sig nD τ) (Lvl := ℕ) (pcfgs (F := F)) defs₀ Variants.none lvls lvl :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (at4 m) dues

/-- The whole program's segments. -/
abbrev items (hin : ∀ c t k, k2_chk1 (idAt (F := F) (blk2 (at3 m) c 0 t) k)) : List (Seg (pcfgs (F := F)) adm (pdats m) () defs₀ Variants.none lvls lvl) :=
  [.region (reg0 m), .region (reg1 m), .host (host2 m), .region (reg2 m hin), .host (host3 m)]

/-- The thread state between two items. -/
abbrev between (V : Vals F) (c : Dev nD) : sProp 𝕄 := iprop(StableHlo.held (c : Thread nD τ) (Pipeline.ucRefs τ sig) (V c) ∗ dues c)

set_option backward.isDefEq.respectTransparency.types false in
/-- The first region starts from the launch. -/
theorem reg0_pre (c : Dev nD) : between (at0 m) c ⊢ (reg0 m).pre c := by
  have h : iprop(StableHlo.held (c : Thread nD τ) (Pipeline.ucRefs τ sig) (at0 m c) ∗ (dues c ∗ emp ∗ emp)) ⊢ (reg0 m).pre c :=
    RegionSeg.ofHeldIn_pre (pcs := pcfgs (F := F)) (a := adm) (pdats := pdats m) (ι := ()) (defs₀ := defs₀) (𝒱₀ := Variants.none) (L := lvls) (lv := lvl) (p := 0)
      (D := fun _ => 0) (X := fun _ => iprop(emp)) (Y := fun _ => iprop(emp)) (R := fun _ => iprop(emp)) (W := at0 m) (b := fun _ => 0) (hcut := cut 0)
      (Pipeline.arrRefs_sub_ucRefs spec0 winFacts0.arr_unscoped) c
  refine BIBase.Entails.trans ?_ h
  iintro ⟨H, HO⟩
  isplitl [H]; · iexact H
  isplitl [HO]; · iexact HO
  isplitl [] <;> iempintro

set_option backward.isDefEq.respectTransparency.types false in
/-- The first region ends with its outputs written. -/
theorem reg0_post (c : Dev nD) : (reg0 m).post c ⊢ between (at1 m) c := by
  have h : (reg0 m).post c ⊢ iprop(StableHlo.held (c : Thread nD τ) (Pipeline.ucRefs τ sig) (at1 m c) ∗ (dues c ∗ emp ∗ emp)) :=
    RegionSeg.ofHeldIn_post (pcs := pcfgs (F := F)) (a := adm) (pdats := pdats m) (ι := ()) (defs₀ := defs₀) (𝒱₀ := Variants.none) (L := lvls) (lv := lvl) (p := 0)
      (D := fun _ => 0) (X := fun _ => iprop(emp)) (Y := fun _ => iprop(emp)) (R := fun _ => iprop(emp)) (W := at0 m) (b := fun _ => 0) (hcut := cut 0)
      (Pipeline.arrRefs_sub_ucRefs spec0 winFacts0.arr_unscoped) c
  refine h.trans ?_
  iintro ⟨H, HO, -, -⟩
  isplitl [H]; · iexact H
  iexact HO

set_option backward.isDefEq.respectTransparency.types false in
/-- The second region starts where the first ends. -/
theorem reg1_pre (c : Dev nD) : between (at1 m) c ⊢ (reg1 m).pre c := by
  have h : iprop(StableHlo.held (c : Thread nD τ) (Pipeline.ucRefs τ sig) (at1 m c) ∗ (dues c ∗ emp ∗ emp)) ⊢ (reg1 m).pre c :=
    RegionSeg.ofHeldIn_pre (pcs := pcfgs (F := F)) (a := adm) (pdats := pdats m) (ι := ()) (defs₀ := defs₀) (𝒱₀ := Variants.none) (L := lvls) (lv := lvl) (p := 1)
      (D := fun _ => 0) (X := fun _ => iprop(emp)) (Y := fun _ => iprop(emp)) (R := fun _ => iprop(emp)) (W := at1 m) (b := fun _ => 0) (hcut := cut 1)
      (Pipeline.arrRefs_sub_ucRefs spec1 winFacts1.arr_unscoped) c
  refine BIBase.Entails.trans ?_ h
  iintro ⟨H, HO⟩
  isplitl [H]; · iexact H
  isplitl [HO]; · iexact HO
  isplitl [] <;> iempintro

set_option backward.isDefEq.respectTransparency.types false in
/-- The second region ends with its outputs written. -/
theorem reg1_post (c : Dev nD) : (reg1 m).post c ⊢ between (at2 m) c := by
  have h : (reg1 m).post c ⊢ iprop(StableHlo.held (c : Thread nD τ) (Pipeline.ucRefs τ sig) (at2 m c) ∗ (dues c ∗ emp ∗ emp)) :=
    RegionSeg.ofHeldIn_post (pcs := pcfgs (F := F)) (a := adm) (pdats := pdats m) (ι := ()) (defs₀ := defs₀) (𝒱₀ := Variants.none) (L := lvls) (lv := lvl) (p := 1)
      (D := fun _ => 0) (X := fun _ => iprop(emp)) (Y := fun _ => iprop(emp)) (R := fun _ => iprop(emp)) (W := at1 m) (b := fun _ => 0) (hcut := cut 1)
      (Pipeline.arrRefs_sub_ucRefs spec1 winFacts1.arr_unscoped) c
  refine h.trans ?_
  iintro ⟨H, HO, -, -⟩
  isplitl [H]; · iexact H
  iexact HO

set_option backward.isDefEq.respectTransparency.types false in
/-- Every weakly fair execution terminates, every final state holding each unscoped buffer at the last contents above and every
    semaphore counter at zero, when every id the third region reads names an anchor. -/
theorem run (ρ : Dev nD → PrngReg) (hin : ∀ c t k, k2_chk1 (idAt (F := F) (blk2 (at3 m) c 0 t) k)) :
    θ_run defs (onTc (τ := τ) (main (F := F))) ⟨m, fun _ => 0, ρ⟩ (fun r =>
      (∀ c : Dev nD, ∀ b ∈ Pipeline.ucRefs τ sig, r.2.mem (c, b) = at5 m c b) ∧ r.2.sem = fun _ => 0) := by
  refine Pipeline.θ_run_regions_kit_dev_sems (pcfgs (F := F)) adm (pdats m) () cellOf_inj embL defs₀ Variants.none lvls lvl m ρ main
    (fun _ => items m hin)
    (fun c Q => by
      rewrite [main_chain c, Seg.run_eq_chain,
        show (items m hin).map Seg.prog = [
          Prog.lift (.customCall (Pipeline.entry 0) ()),
          Prog.lift (.customCall (Pipeline.entry 1) ()),
          StableHlo.seq hostOps2,
          Prog.lift (.customCall (Pipeline.entry 2) ()),
          StableHlo.seq hostOps3 ] from rfl]
      dsimp (config := { failIfUnchanged := false }) only
      exact .rfl)
    (fun c => by simp only [items, Seg.pipes_host, Seg.pipes_region, Seg.pipes_nil]; decide) (fun _ => 0) (fun g h => if_neg h) (fun _ => iprop(emp))
    (initOf (Pipeline.cells cfgs cellOf_inj) (Pipeline.launchToks cfgs cellOf_inj), 1) ?_
    (T₀ := fun c => between (at0 m) c)
    (Tₙ := fun c => StableHlo.held (c : Thread nD τ) (Pipeline.ucRefs τ sig) (at5 m c))
    (hch := fun c => ⟨reg0_pre m c, (reg0_post m c).trans (reg1_pre m c), reg1_post m c, .rfl, .rfl, .rfl⟩)
    (hinit := ?_) (QY := fun c s => ∀ b ∈ Pipeline.ucRefs τ sig, s.mem (c, b) = at5 m c b)
    (hfin := fun c s' => ?_) (hQ := fun _ h hz => ⟨h, funext fun g => hz g (.inr (regions_no_unscoped g.2))⟩)
  · iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · refine Pipeline.initEach lvls lvl fun c => ?_
    rw [show unscopedBufs c (fun b => m ((c : Thread nD τ).loc b)) = StableHlo.held (c : Thread nD τ) (Pipeline.ucRefs τ sig) (at0 m c) from
      Pipeline.unscopedBufs_held c (at0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (at5 m c) s') $$ [Hh HSI]
    · isplitl [Hh] <;> iassumption
    icases Hr with ⟨%h, HSI⟩
    imodintro
    isplitr
    · ipureintro; exact h
    iexact HSI

end Cert.KernelIdeal.Hand

end
-- ==== Proof.Maths.lean ====
/- The problem's mathematics over the extended reals, free of any program: rows scaled to length one, distances, the lowest place of a
   least distance, and the running update of the anchors and their counts. -/
module

public import Idealize.ShloMosaic.Lib.Pointwise

@[expose] public section

noncomputable section

namespace Cert.Anchors

open Idealize.ShloMosaic

/-- A row of 256 extended reals. -/
abbrev Row : Type := Fin 256 → EReal

/-- The smallest length a row is divided by. -/
def eps : EReal := Ideal.ofBits .f32 0x2B8CBCCC#32

/-- A row divided by its length, the length taken as at least `eps`. -/
def unit (v : Row) : Row := fun j => Ideal.div (v j) (max (Ideal.sqrt (∑ l, v l * v l)) eps)

/-- The mean of a prompt's 256 token rows. -/
def mean (p : Fin 256 → Row) : Row := fun j => Ideal.div (∑ n, p n j) (Ideal.ofBits .f32 0x43800000#32)

/-- A prompt's descriptor: its mean row, scaled to length one. -/
def desc (p : Fin 256 → Row) : Row := unit (mean p)

/-- The cosine distance of a descriptor from an anchor: one less the product of the two rows, each scaled to length one. -/
def dist (d a : Row) : EReal := 1 - ∑ l, unit d l * unit a l

/-! ## The lowest place of a least value -/

/-- Among the first `N` values of `D` the value at `k` is least, and every value before it is larger. -/
def Low (D : ℕ → EReal) (N k : ℕ) : Prop := k < N ∧ ∀ l, l < N → D k ≤ D l ∧ (l < k → D k < D l)

/-- There is at most one lowest place. -/
theorem Low.unique {D : ℕ → EReal} {N k k' : ℕ} (h : Low D N k) (h' : Low D N k') : k = k' := by
  rcases lt_trichotomy k k' with hlt | rfl | hlt
  · exact absurd ((h'.2 k h.1).2 hlt) (not_lt.mpr (h.2 k' h'.1).1)
  · rfl
  · exact absurd ((h.2 k' h'.1).2 hlt) (not_lt.mpr (h'.2 k h.1).1)

/-- The lowest place among `N` values followed by `M` more: the later values' place where their least value is strictly below,
    else the earlier place. -/
theorem Low.append {D : ℕ → EReal} {N M k e : ℕ} (h : Low D N k) (h' : Low (fun l => D (N + l)) M e) :
    Low D (N + M) (if D (N + e) < D k then N + e else k) := by
  by_cases hlt : D (N + e) < D k
  · rw [if_pos hlt]
    refine ⟨by have := h'.1; omega, fun l hl => ?_⟩
    by_cases hN : l < N
    · have := lt_of_lt_of_le hlt (h.2 l hN).1
      exact ⟨this.le, fun _ => this⟩
    · obtain ⟨r, rfl⟩ := Nat.exists_eq_add_of_le (not_lt.mp hN)
      have := h'.2 r (by omega)
      exact ⟨this.1, fun hr => this.2 (by omega)⟩
  · rw [if_neg hlt]
    refine ⟨by have := h.1; omega, fun l hl => ?_⟩
    by_cases hN : l < N
    · exact h.2 l hN
    · obtain ⟨r, rfl⟩ := Nat.exists_eq_add_of_le (not_lt.mp hN)
      refine ⟨le_trans (not_lt.mp hlt) (h'.2 r (by omega)).1, fun hr => ?_⟩
      have := h.1; omega

/-- A nonempty range of values has a lowest place. -/
theorem Low.exists (D : ℕ → EReal) : ∀ N, 0 < N → ∃ k, Low D N k
  | 0, h => absurd h (lt_irrefl 0)
  | 1, _ => ⟨0, Nat.one_pos, fun l hl => by obtain rfl : l = 0 := by omega
                                            exact ⟨le_rfl, fun h => absurd h (lt_irrefl 0)⟩⟩
  | N + 2, _ => by
    obtain ⟨k, hk⟩ := Low.exists D (N + 1) (Nat.succ_pos N)
    have h1 : Low (fun l => D (N + 1 + l)) 1 0 := ⟨Nat.one_pos, fun l hl => by
      obtain rfl : l = 0 := by omega
      exact ⟨le_rfl, fun h => absurd h (lt_irrefl 0)⟩⟩
    exact ⟨_, hk.append h1⟩

/-- The distances of a descriptor from the anchors, by number; past the last anchor they repeat from the first. -/
def dists (d : Row) (A : Fin 8192 → Row) (k : ℕ) : EReal := dist d (A ⟨k % 8192, Nat.mod_lt _ (by norm_num)⟩)

/-- The lowest place of a descriptor's least distance. -/
def place (d : Row) (A : Fin 8192 → Row) : Fin 8192 :=
  ⟨(Low.exists (dists d A) 8192 (by norm_num)).choose, (Low.exists (dists d A) 8192 (by norm_num)).choose_spec.1⟩

/-- A lowest place of the 8192 distances is `place`. -/
theorem place_eq {d : Row} {A : Fin 8192 → Row} {k : ℕ} (h : Low (dists d A) 8192 k) : k = (place d A).val :=
  h.unique (Low.exists (dists d A) 8192 (by norm_num)).choose_spec

/-! ## The running update -/

/-- The anchors and how often each was chosen. -/
abbrev State : Type := (Fin 8192 → Row) × (Fin 8192 → EReal)

/-- The weight an anchor keeps: none before it is first chosen. -/
def keep (n : EReal) : EReal := if n < 1 then 0 else Ideal.ofBits .f32 0x3F666666#32

/-- A chosen anchor's new row: the weighted sum of its row and the descriptor, scaled to length one. -/
def moved (n : EReal) (a d : Row) : Row := unit fun j => keep n * a j + (1 - keep n) * d j

/-- One descriptor's update: the anchor it chose moves and its count rises by one. -/
def update (k : Fin 8192) (d : Row) (s : State) : State :=
  (Function.update s.1 k (moved (s.2 k) (s.1 k) d), Function.update s.2 k (s.2 k + 1))

/-- The anchors and counts after the first `n` descriptors. -/
def updates (ks : Fin 512 → Fin 8192) (ds : Fin 512 → Row) (s : State) : ℕ → State
  | 0 => s
  | n + 1 => if h : n < 512 then update (ks ⟨n, h⟩) (ds ⟨n, h⟩) (updates ks ds s n) else updates ks ds s n

/-- One more descriptor's update. -/
theorem updates_succ (ks : Fin 512 → Fin 8192) (ds : Fin 512 → Row) (s : State) (n : Fin 512) :
    updates ks ds s (n.val + 1) = update (ks n) (ds n) (updates ks ds s n.val) := dif_pos n.isLt

end Cert.Anchors

end
-- ==== Proof.PayPool.lean ====
/- The first region's blocks read at an index. -/
module

public import proofs.«01_k».proof.Proof.Maths
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic

/-- The block's first output at a row: the descriptor of the row's prompt. -/
theorem pool_desc (v : Vec Ideal S16x256x256 .f32) (r : Fin 16) (l : Fin 256) :
    k0_pay1 v (ix2 r l) = Anchors.desc (fun n j => v (ix3 r n j)) l := by
  pointwise [k0_pay1]
  rfl

/-- The block's second output at a row: the descriptor scaled once more. -/
theorem pool_query (v : Vec Ideal S16x256x256 .f32) (r : Fin 16) (l : Fin 256) :
    k0_pay2 v (ix2 r l) = Anchors.unit (Anchors.desc (fun n j => v (ix3 r n j))) l := by
  pointwise [k0_pay2]
  simp only [pool_desc]
  rfl

end Cert.KernelIdeal.Hand

end
-- ==== Proof.PayAssign.lean ====
/- The second region's blocks read at an index: distances, their least value, and its lowest place. -/
module

public import proofs.«01_k».proof.Proof.Maths
public import proofs.«01_k».proof.Proof.Gen.KernelIdeal.Skeleton
public import Idealize.ShloMosaic.Lib.WordArith
public import Idealize.ShloMosaic.Lib.SortNet.Extract

@[expose] public section

set_option maxRecDepth 16384

noncomputable section

namespace Cert.KernelIdeal.Hand

open Cert.KernelIdeal Cert.KernelIdeal.Gen
open Idealize.ShloMosaic

/-- A block's distance table at an entry. -/
theorem assign_dist (x : Vec Ideal S512x256 .f32) (a : Vec Ideal S1024x256 .f32) (b : Fin 512) (k : Fin 1024) :
    k1_pay1 x a (ix2 b k) = 1 - ∑ l : Fin 256, x (ix2 b l) * Anchors.unit (fun j => a (ix2 k j)) l := by
  pointwise [k1_pay1]
  rfl

/-- The bit pattern the least distance starts from is plus infinity. -/
theorem ofBits_inf : Ideal.ofBits FTy.f32 2139095040#32 = ⊤ := by simp [Ideal.ofBits, Ideal.ieee]

/-- The least of values with a lowest place is the value there. -/
theorem fold_min_low {n e : ℕ} {D : ℕ → EReal} (h : Anchors.Low D n e) (v : Fin n → EReal) (hv : ∀ k, v k = D k.val) :
    Finset.univ.fold min ⊤ v = D e := by
  refine le_antisymm ((Finset.fold_min_le _).mpr (.inr ⟨⟨e, h.1⟩, Finset.mem_univ _, (hv _).le⟩)) ((Finset.le_fold_min _).mpr ⟨le_top, fun k _ => ?_⟩)
  rw [hv]
  exact (h.2 k.val k.isLt).1

/-- The least of the places whose value is the least one, the other places marked 8192, is the lowest place. -/
theorem fold_place_low {n e : ℕ} {D : ℕ → EReal} (hn : n ≤ 8192) (h : Anchors.Low D n e) (v : Fin n → EReal) (hv : ∀ k, v k = D k.val) :
    (Finset.univ.fold IntOp.minsi 2147483647#32 fun k : Fin n => if v k = D e then BitVec.ofNat 32 k.val else 8192#32) = BitVec.ofNat 32 e := by
  have he := h.1
  apply BitVec.eq_of_toInt_eq
  rw [← Finset.fold_hom (op' := min) (m := BitVec.toInt) SortNet.toInt_minsi, WordArith.toInt_ofNat_small e (by omega)]
  refine le_antisymm ((Finset.fold_min_le _).mpr (.inr ⟨⟨e, he⟩, Finset.mem_univ _, ?_⟩)) ((Finset.le_fold_min _).mpr ⟨?_, fun k _ => ?_⟩)
  · rw [if_pos (hv _), WordArith.toInt_ofNat_small _ (by dsimp only; omega)]
  · rw [show (2147483647#32).toInt = 2147483647 from by decide]; omega
  · split
    · next hk =>
      rw [WordArith.toInt_ofNat_small _ (by have := k.isLt; omega)]
      by_contra hlt
      rw [hv] at hk
      exact absurd hk ((h.2 k.val k.isLt).2 (by omega)).ne'
    · rw [show (8192#32).toInt = 8192 from by decide]; omega

variable (x : Vec Ideal S512x256 .f32) (a : Vec Ideal S1024x256 .f32) (b : Fin 512)

/-- A block's first store at a descriptor whose distances in the block are `D`, least first at `e`: the least distance. -/
theorem assign_least {D : ℕ → EReal} {e : ℕ} (h : Anchors.Low D 1024 e) (hD : ∀ k : Fin 1024, k1_pay1 x a (ix2 b k) = D k.val) :
    k1_pay2 x a (ix2 b 0) = D e := by
  pointwise [k1_pay2]
  rw [ofBits_inf]
  exact fold_min_low h _ hD

/-- The same descriptor's place: the lowest in the block, counted from the block's first anchor. -/
theorem assign_place (i : grid1.Coords) {D : ℕ → EReal} {e : ℕ} (h : Anchors.Low D 1024 e) (hD : ∀ k : Fin 1024, k1_pay1 x a (ix2 b k) = D k.val) :
    k1_pay3 i x a (ix2 b 0) = BitVec.ofNat 32 ((i 0).val * 1024 + e) := by
  pointwise [k1_pay3]
  rw [assign_least x a b h hD, fold_place_low (by norm_num) h _ hD]
  show BitVec.ofNat 32 e + BitVec.ofNat 32 (i 0).val * 1024#32 = _
  rw [BitVec.ofNat_add, BitVec.ofNat_mul, add_comm]

/-- A later block keeps the earlier place unless its own least distance is strictly below. -/
theorem assign_place_later (i : grid1.Coords) (m : Vec Ideal S512x1 .f32) (p : Vec Ideal S512x1 .i32) :
    k1_pay7 i x a m p (ix2 b 0) = if k1_pay2 x a (ix2 b 0) < m (ix2 b 0) then k1_pay3 i x a (ix2 b 0) else p (ix2 b 0) := by
  pointwise [k1_pay7, k1_pay5, k1_pay4]

/-- A later block keeps the earlier least distance unless its own is strictly below. -/
theorem assign_least_later (m : Vec Ideal S512x1 .f32) :
    k1_pay6 x a m (ix2 b 0) = if k1_pay2 x a (ix2 b 0) < m (ix2 b 0) then k1_pay2 x a (ix2 b 0) else m (ix2 b 0) := by
  pointwise [k1_pay6, k1_pay5, k1_pay4]

end Cert.KernelIdeal.Hand

end
-- ==== Proof.PayEma.lean ====
/- The third region's trips read at an index: the anchors and counts as plain functions, and one trip on them. -/
module

public import proofs.«01_k».proof.Proof.Maths
public import proofs.«01_k».proof.Proof.BodyEma

@[expose] public section

set_option maxRecDepth 16384

noncomputable section

namespace Cert.KernelIdeal.Hand

open Cert.KernelIdeal Cert.KernelIdeal.Gen
open Idealize.ShloMosaic

/-- The row a trip stores: the old row and the descriptor weighted by the count, scaled to length one. -/
theorem ema_row (n : Vec Ideal S1x1 .f32) (d a : Vec Ideal S1x256 .f32) (l : Fin 256) :
    k2_pay3 n d a (ix2 0 l) = Anchors.moved (n (ix2 0 0)) (fun j => a (ix2 0 j)) (fun j => d (ix2 0 j)) l := by
  pointwise [k2_pay3, k2_pay2]
  rw [Fin.sum_univ_one]
  rfl

/-- The count a trip stores. -/
theorem ema_count (n : Vec Ideal S1x1 .f32) : k2_pay4 n (ix2 0 0) = n (ix2 0 0) + 1 := by
  pointwise [k2_pay4, k2_pay2]

/-- The anchors and counts as plain functions. -/
def plain (s : Bank Ideal) : Anchors.State := (fun k j => s.1 (ix2 k j), fun k => s.2 (ix2 k 0))

/-- A row of width `C` put at row `k` of a table, the table read back: row `k` replaced. -/
theorem put_row {α : Type} {R C : ℕ} (v : (⟨2, ![R, C]⟩ : Shape).Idx → α) (w : (⟨2, ![1, C]⟩ : Shape).Idx → α) (off : Fin 2 → ℕ) (k r : Fin R) (j : Fin C)
    (h : off = ![k.val, 0]) :
    VecWindow.put v off (⟨2, ![1, C]⟩ : Shape).size w (ix2 r j) = if r = k then w (ix2 0 j) else v (ix2 r j) := by
  subst h
  unfold VecWindow.put
  by_cases hr : r = k
  · subst hr
    rw [if_pos rfl, dif_pos (fun a => by
      match a with
      | ⟨0, _⟩ => exact ⟨le_rfl, Nat.lt_succ_self _⟩
      | ⟨1, _⟩ => exact ⟨Nat.zero_le _, by show j.val < 0 + C; rw [Nat.zero_add]; exact j.isLt⟩)]
    refine congrArg w (funext fun a => ?_)
    match a with
    | ⟨0, _⟩ => exact Subsingleton.elim (α := Fin 1) _ _
    | ⟨1, _⟩ => exact Fin.ext (Nat.sub_zero _)
  · rw [if_neg hr, dif_neg fun ha => hr (Fin.ext ?_)]
    have h0 := ha 0
    change k.val ≤ r.val ∧ r.val < k.val + 1 at h0
    omega

/-- The row of width `C` at row `k` of a table, read at a column. -/
theorem window_row {α : Type} {R C : ℕ} (v : (⟨2, ![R, C]⟩ : Shape).Idx → α) (off : Fin 2 → ℕ) (inb) (k : Fin R) (j : Fin C) (h : off = ![k.val, 0]) :
    VecWindow.window v off (⟨2, ![1, C]⟩ : Shape).size inb (ix2 0 j) = v (ix2 k j) := by
  subst h
  refine congrArg v (funext fun a => Fin.ext ?_)
  match a with
  | ⟨0, _⟩ => show k.val + 1 * 0 = k.val; omega
  | ⟨1, _⟩ => show 0 + 1 * j.val = j.val; omega

/-- A trip as a descriptor's number. -/
def tripNo (k : Fin k2_t1_loop.trips) : Fin 512 := ⟨k.val, Nat.lt_of_lt_of_le k.isLt k2_t1_abs.2.1⟩

/-- The id a trip reads is the id table's entry at the trip's number. -/
theorem idAt_eq (x : Vec Ideal S512x1 .i32) (k : Fin k2_t1_loop.trips) : idAt (F := Ideal) x k = x (ix2 (tripNo k) 0) := by
  unfold idAt
  rw [show Shape.Idx.first (s := S1x1) (numel1_S1x1.symm ▸ Nat.one_pos) = ix2 0 0 from
    funext fun a => match a with | ⟨0, _⟩ => Subsingleton.elim (α := Fin 1) _ _ | ⟨1, _⟩ => Subsingleton.elim (α := Fin 1) _ _]
  exact window_row x (k2_off1 k) _ (tripNo k) 0 (k2_off1_eq k)

/-- An anchor's number as the word the id table holds. -/
theorem off2_of (e : Fin 8192) : k2_off2 (BitVec.ofNat 32 e.val) = ![e.val, 0] := by
  have : (BitVec.ofNat 32 e.val).toNat = e.val := by rw [BitVec.toNat_ofNat]; have := e.isLt; omega
  show ![(BitVec.ofNat 32 e.val).toNat, 0] = _
  rw [this]
/-- The row that a write at an anchor's id starts at. -/
theorem off4_of (e : Fin 8192) : k2_off4 (BitVec.ofNat 32 e.val) = ![e.val, 0] := off2_of e

/-- A word that is an anchor's number names an anchor. -/
theorem chk_of (e : Fin 8192) : k2_chk1 (BitVec.ofNat 32 e.val) := by
  have := e.isLt
  constructor
  · rw [off2_of]
    intro a
    match a with
    | ⟨0, _⟩ => show e.val + 1 ≤ 8192; omega
    | ⟨1, _⟩ => show 0 + 1 ≤ 1; omega
  · rw [off4_of]
    intro a
    match a with
    | ⟨0, _⟩ => show e.val + 1 ≤ 8192; omega
    | ⟨1, _⟩ => show 0 + 256 ≤ 256; omega

variable (x : Vec Ideal S512x1 .i32) (d : Vec Ideal S512x256 .f32) (hin : ∀ k, k2_chk1 (idAt (F := Ideal) x k))

/-- One trip whose id is the word of anchor `e` is one descriptor's update. -/
theorem plain_step (k : Fin k2_t1_loop.trips) (e : Fin 8192) (he : x (ix2 (tripNo k) 0) = BitVec.ofNat 32 e.val) (s : Bank Ideal) :
    plain (emaStep x d hin k s) = Anchors.update e (fun j => d (ix2 (tripNo k) j)) (plain s) := by
  have hid := (idAt_eq x k).trans he
  have h2 : k2_off2 (idAt (F := Ideal) x k) = ![e.val, 0] := by rw [hid]; exact off2_of e
  have h4 : k2_off4 (idAt (F := Ideal) x k) = ![e.val, 0] := by rw [hid]; exact off4_of e
  refine Prod.ext (funext fun r => funext fun j => ?_) (funext fun r => ?_)
  · refine (put_row s.1 _ _ e r j h4).trans ?_
    dsimp only [Anchors.update]
    rw [Function.update_apply]
    by_cases hr : r = e
    · rw [if_pos hr, if_pos hr, ema_row]
      exact congrFun (congr (congr (congrArg Anchors.moved (window_row s.2 _ _ e 0 h2)) (funext fun l => window_row s.1 _ _ e l h4))
        (funext fun l => window_row d _ _ (tripNo k) l (k2_off3_eq k))) j
    · rw [if_neg hr, if_neg hr]; rfl
  · refine (put_row s.2 _ _ e r 0 h2).trans ?_
    dsimp only [Anchors.update]
    rw [Function.update_apply]
    by_cases hr : r = e
    · rw [if_pos hr, if_pos hr, ema_count, window_row s.2 _ _ e 0 h2]; rfl
    · rw [if_neg hr, if_neg hr]; rfl

/-- The trips, their ids the words of the anchors `es`, are the descriptors' updates in order. -/
theorem plain_run (es : Fin 512 → Fin 8192) (he : ∀ k, x (ix2 k 0) = BitVec.ofNat 32 (es k).val) (s : Bank Ideal) :
    ∀ n, n ≤ k2_t1_loop.trips → plain (emaRun x d hin s n) = Anchors.updates es (fun b j => d (ix2 b j)) (plain s) n
  | 0, _ => rfl
  | n + 1, hn => by
    have := plain_step x d hin ⟨n, hn⟩ (es (tripNo ⟨n, hn⟩)) (he _) (emaRun x d hin s n)
    rw [plain_run es he s n (Nat.le_of_succ_le hn)] at this
    rw [emaRun_succ x d hin s ⟨n, hn⟩, this]
    exact (Anchors.updates_succ es _ _ (tripNo ⟨n, hn⟩)).symm

end Cert.KernelIdeal.Hand

end
-- ==== Proof.Arrays.lean ====
/- What the buffers hold between the regions, at the extended reals: the descriptors, the places of their nearest anchors, and the
   anchors and counts after all the updates. -/
module

public import proofs.«01_k».proof.Proof.Run
public import proofs.«01_k».proof.Proof.PayPool
public import proofs.«01_k».proof.Proof.PayAssign
public import proofs.«01_k».proof.Proof.PayEma
public import Idealize.ShloMosaic.Lib.Pipeline.ValueKit
public import Idealize.ShloMosaic.Lib.StableHlo.RunRead

@[expose] public section

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Window afterRegion afterRegion_arr afterRegion_keeps afterRegion_of_not_arr)

variable (m : (ℓ : Loc nD τ sig) → Buf (Elt Ideal) ℓ) (c : Dev nD)

/-! ## The arguments as plain functions -/

/-- The prompts' token rows. -/
def prompts : Fin 512 → Fin 256 → Anchors.Row := fun b n j => (m (c, Proc.devRef .tc main_arg0) : Vec Ideal S512x256x256 .f32) (ix3 b n j)
/-- The anchors. -/
def anchors : Fin 8192 → Anchors.Row := fun k j => (m (c, Proc.devRef .tc main_arg1) : Vec Ideal S8192x256 .f32) (ix2 k j)
/-- The counts. -/
def counts : Fin 8192 → EReal := fun k => (m (c, Proc.devRef .tc main_arg2) : Vec Ideal S8192 .f32) (ix1 k)
/-- A prompt's descriptor. -/
def descs : Fin 512 → Anchors.Row := fun b => Anchors.desc (prompts m c b)
/-- The place of a descriptor's nearest anchor. -/
def places : Fin 512 → Fin 8192 := fun b => Anchors.place (descs m c b) (anchors m c)

/-! ## After the first region -/

/-- Point `t` of the first region reads the `t`-th group of prompts. -/
theorem index0_0 : ∀ t : Fin grid0.N, win0_0.index t = ![t.val, 0, 0] := by decide +kernel
/-- Point `t` of the first region writes the `t`-th group of descriptors. -/
theorem index0_1 : ∀ t : Fin grid0.N, win0_1.index t = ![t.val, 0] := by decide +kernel
/-- Point `t` of the first region writes the `t`-th group of descriptors normalised again. -/
theorem index0_2 : ∀ t : Fin grid0.N, win0_2.index t = ![t.val, 0] := by decide +kernel

/-- A prompt block's entry. -/
theorem block_prompts (t : Fin grid0.N) (r : Fin 16) (n j : Fin 256) (h : t.val * 16 + r.val < 512) :
    blk0 (at0 m) c 0 t (ix3 r n j) = prompts m c ⟨t.val * 16 + r.val, h⟩ n j := by
  unfold blk0 prompts at0
  blk_ext [index0_0]

/-- After the first region its first output holds the descriptors. -/
theorem at1_desc : at1 m c (Proc.devRef .tc main_v0_0) = (fun i => descs m c (i 0) (i 1) : Vec Ideal S512x256 .f32) := by
  refine (afterRegion_arr (dat0 (at0 m) c) (at0 m c) launch0.win.arr_inj 1).trans
    ((dat0 (at0 m) c).arrAt_eq_of_covers 1 _ (by decide +kernel) fun t _ y => ?_)
  rw [dat0_after1]
  have ht : t.val < 32 := t.isLt
  idx_vars y
  have hb : t.val * 16 + y0.val < 512 := by omega
  have e0 : (((cfg0.win 1).blk t).view.emb (ix2 y0 y1) 0 : Fin 512) = ⟨t.val * 16 + y0.val, hb⟩ := Fin.ext (by blk_simp [index0_1])
  have e1 : (((cfg0.win 1).blk t).view.emb (ix2 y0 y1) 1 : Fin 256) = y1 := Fin.ext (by blk_simp [index0_1])
  rw [e0, e1]
  refine (pool_desc (blk0 (at0 m) c 0 t) y0 y1).trans ?_
  rw [show (fun n j => blk0 (at0 m) c 0 t (ix3 y0 n j)) = prompts m c ⟨t.val * 16 + y0.val, by omega⟩ from
    funext fun n => funext fun j => block_prompts m c t y0 n j (by omega)]
  rfl

/-- After the first region its second output holds the descriptors scaled once more. -/
theorem at1_query : at1 m c (Proc.devRef .tc main_v0_1) = (fun i => Anchors.unit (descs m c (i 0)) (i 1) : Vec Ideal S512x256 .f32) := by
  refine (afterRegion_arr (dat0 (at0 m) c) (at0 m c) launch0.win.arr_inj 2).trans
    ((dat0 (at0 m) c).arrAt_eq_of_covers 2 _ (by decide +kernel) fun t _ y => ?_)
  rw [dat0_after2]
  have ht : t.val < 32 := t.isLt
  idx_vars y
  have hb : t.val * 16 + y0.val < 512 := by omega
  have e0 : (((cfg0.win 2).blk t).view.emb (ix2 y0 y1) 0 : Fin 512) = ⟨t.val * 16 + y0.val, hb⟩ := Fin.ext (by blk_simp [index0_2])
  have e1 : (((cfg0.win 2).blk t).view.emb (ix2 y0 y1) 1 : Fin 256) = y1 := Fin.ext (by blk_simp [index0_2])
  rw [e0, e1]
  refine (pool_query (blk0 (at0 m) c 0 t) y0 y1).trans ?_
  rw [show (fun n j => blk0 (at0 m) c 0 t (ix3 y0 n j)) = prompts m c ⟨t.val * 16 + y0.val, by omega⟩ from
    funext fun n => funext fun j => block_prompts m c t y0 n j (by omega)]
  rfl

/-- The first region leaves the anchors and the counts. -/
theorem at1_arg1 : at1 m c (Proc.devRef .tc main_arg1) = m (c, Proc.devRef .tc main_arg1) :=
  afterRegion_of_not_arr (dat0 (at0 m) c) (at0 m c) (by decide)
/-- The first region leaves the counts. -/
theorem at1_arg2 : at1 m c (Proc.devRef .tc main_arg2) = m (c, Proc.devRef .tc main_arg2) :=
  afterRegion_of_not_arr (dat0 (at0 m) c) (at0 m c) (by decide)

/-! ## After the second region -/

/-- Every point of the second region reads all the descriptors. -/
theorem index1_0 : ∀ t : Fin grid1.N, win1_0.index t = ![0, 0] := by decide +kernel
/-- Point `t` of the second region reads the `t`-th group of anchors. -/
theorem index1_1 : ∀ t : Fin grid1.N, win1_1.index t = ![t.val, 0] := by decide +kernel
/-- Every point of the second region writes all the ids. -/
theorem index1_2 : ∀ t : Fin grid1.N, win1_2.index t = ![0, 0] := by decide +kernel
/-- The second region's points are numbered by their one coordinate. -/
theorem coord1 : ∀ t : Fin grid1.N, (grid1.coords t 0).val = t.val := by decide +kernel

/-- Every point's first input is all the scaled descriptors. -/
theorem block_query (t : Fin grid1.N) (b : Fin 512) (l : Fin 256) : blk1 (at1 m) c 0 t (ix2 b l) = Anchors.unit (descs m c b) l := by
  refine Eq.trans ?_ (congrFun (at1_query m c) (ix2 b l))
  unfold blk1
  blk_ext [index1_0]

/-- A point's second input is its 1024 anchors. -/
theorem block_anchors (t : Fin grid1.N) (k : Fin 1024) (j : Fin 256) (h : t.val * 1024 + k.val < 8192) :
    blk1 (at1 m) c 1 t (ix2 k j) = anchors m c ⟨t.val * 1024 + k.val, h⟩ j := by
  refine Eq.trans ?_ (congrFun (at1_arg1 m c) (ix2 ⟨t.val * 1024 + k.val, h⟩ j))
  unfold blk1
  blk_ext [index1_1]

/-- A point's distance table holds the distances of the descriptors from its anchors. -/
theorem block_dist (t : Fin grid1.N) (b : Fin 512) (k : Fin 1024) :
    k1_pay1 (blk1 (at1 m) c 0 t) (blk1 (at1 m) c 1 t) (ix2 b k) = Anchors.dists (descs m c b) (anchors m c) (t.val * 1024 + k.val) := by
  have ht : t.val < 8 := t.isLt
  have h : t.val * 1024 + k.val < 8192 := by omega
  refine (assign_dist (blk1 (at1 m) c 0 t) (blk1 (at1 m) c 1 t) b k).trans ?_
  unfold Anchors.dists Anchors.dist
  simp only [block_query, Nat.mod_eq_of_lt h]
  rw [show (fun j => blk1 (at1 m) c 1 t (ix2 k j)) = anchors m c ⟨t.val * 1024 + k.val, h⟩ from funext fun j => block_anchors m c t k j h]

/-- After each point the running table holds the least distance so far and its lowest place. -/
theorem asg_low (b : Fin 512) : ∀ (n : ℕ) (h : n < cfg1.N), ∃ e,
    Anchors.Low (Anchors.dists (descs m c b) (anchors m c)) ((n + 1) * 1024) e
      ∧ (asg (at1 m) c n h).1 (ix2 b 0) = BitVec.ofNat 32 e
      ∧ (asg (at1 m) c n h).2 (ix2 b 0) = Anchors.dists (descs m c b) (anchors m c) e
  | 0, h => by
    obtain ⟨e, he⟩ := Anchors.Low.exists (Anchors.dists (descs m c b) (anchors m c)) 1024 (by norm_num)
    have hD : ∀ k : Fin 1024, k1_pay1 (blk1 (at1 m) c 0 ⟨0, h⟩) (blk1 (at1 m) c 1 ⟨0, h⟩) (ix2 b k) = Anchors.dists (descs m c b) (anchors m c) k.val :=
      fun k => (block_dist m c ⟨0, h⟩ b k).trans (by rw [Nat.zero_mul, Nat.zero_add])
    refine ⟨e, by rw [Nat.zero_add, Nat.one_mul]; exact he, ?_, ?_⟩; rotate_left
    · have h9 := assign_least (blk1 (at1 m) c 0 ⟨0, h⟩) (blk1 (at1 m) c 1 ⟨0, h⟩) b he hD
      rw [asg]
      dsimp only
      exact h9
    have h8 := assign_place (blk1 (at1 m) c 0 ⟨0, h⟩) (blk1 (at1 m) c 1 ⟨0, h⟩) b (grid1.coords ⟨0, h⟩) he hD
    rw [asg]
    refine h8.trans ?_
    rw [coord1, Nat.zero_mul, Nat.zero_add]
  | n + 1, h => by
    obtain ⟨k, hk, hp, hm⟩ := asg_low b n (Nat.lt_of_succ_lt h)
    obtain ⟨e, he⟩ := Anchors.Low.exists (fun l => Anchors.dists (descs m c b) (anchors m c) ((n + 1) * 1024 + l)) 1024 (Nat.succ_pos _)
    have hD := fun k => block_dist m c ⟨n + 1, h⟩ b k
    have hl := assign_least _ _ b he hD
    have happ := hk.append he
    rw [← Nat.succ_mul] at happ
    refine ⟨_, happ, ?_, ?_⟩
    · refine (assign_place_later _ _ b (grid1.coords ⟨n + 1, h⟩) _ _).trans ?_
      rw [hl, hm, hp, assign_place _ _ b (grid1.coords ⟨n + 1, h⟩) he hD, coord1, apply_ite (BitVec.ofNat 32)]
    · refine (assign_least_later _ _ b _).trans ?_
      rw [hl, hm]
      split <;> rfl

/-- After the second region its first output holds the nearest anchors' places. -/
theorem at2_place : at2 m c (Proc.devRef .tc main_v1_0) = (fun i => BitVec.ofNat 32 (places m c (i 0)).val : Vec Ideal S512x1 .i32) := by
  refine (afterRegion_arr (dat1 (at1 m) c) (at1 m c) launch1.win.arr_inj 2).trans
    ((dat1 (at1 m) c).arrAt_eq_of_covers 2 _ (by decide +kernel) fun t hf y => ?_)
  rw [dat1_after2]
  have ht : t.val < 8 := t.isLt
  have h7 : t.val = 7 := by have := (flush1_2 t).mp hf; omega
  idx_vars y
  have e0 : (((cfg1.win 2).blk t).view.emb (ix2 y0 y1) 0 : Fin 512) = y0 := Fin.ext (by blk_simp [index1_2])
  rw [e0]
  obtain ⟨e, he, hp, -⟩ := asg_low m c y0 t.val t.isLt
  rw [h7] at he
  obtain rfl : y1 = 0 := Subsingleton.elim _ _
  refine hp.trans ?_
  rw [Anchors.place_eq he]
  rfl

/-- The second region leaves the descriptors, the anchors and the counts. -/
theorem at2_desc : at2 m c (Proc.devRef .tc main_v0_0) = (fun i => descs m c (i 0) (i 1) : Vec Ideal S512x256 .f32) :=
  (afterRegion_of_not_arr (dat1 (at1 m) c) (at1 m c) (by decide)).trans (at1_desc m c)
/-- The first two regions leave the anchors. -/
theorem at2_arg1 : at2 m c (Proc.devRef .tc main_arg1) = m (c, Proc.devRef .tc main_arg1) :=
  (afterRegion_keeps (dat1 (at1 m) c) (at1 m c) launch1.win.arr_inj (dat1_A (at1 m) c) main_arg1 (by decide)).trans (at1_arg1 m c)
/-- The first two regions leave the counts. -/
theorem at2_arg2 : at2 m c (Proc.devRef .tc main_arg2) = m (c, Proc.devRef .tc main_arg2) :=
  (afterRegion_of_not_arr (dat1 (at1 m) c) (at1 m c) (by decide)).trans (at1_arg2 m c)

/-! ## After the counts' reshape -/

/-- The reshape writes the counts' table alone. -/
theorem at3_of (r : Ref sig .tc) (h : r ∉ hostOps2_W) : at3 m c (Proc.devRef .tc r) = at2 m c (Proc.devRef .tc r) :=
  StableHlo.after_of_writes_sub hostOps2 _ hostOps2_writes h

/-- The counts' table holds the counts. -/
theorem at3_counts (k : Fin 8192) : (at3 m c (Proc.devRef .tc main_v2) : Vec Ideal S8192x1 .f32) (ix2 k 0) = counts m c k := by
  unfold at3
  after_reads_simp
  refine Eq.trans ?_ (congrFun (at2_arg2 m c) (ix1 k))
  pointwise [counts]

/-! ## After the third region -/

/-- The third region reads all the ids. -/
theorem index2_0 : ∀ t : Fin grid2.N, win2_0.index t = ![0, 0] := by decide +kernel
/-- The third region reads all the descriptors. -/
theorem index2_1 : ∀ t : Fin grid2.N, win2_1.index t = ![0, 0] := by decide +kernel
/-- The third region reads all the counts. -/
theorem index2_2 : ∀ t : Fin grid2.N, win2_2.index t = ![0, 0] := by decide +kernel
/-- The third region writes all the anchors. -/
theorem index2_3 : ∀ t : Fin grid2.N, win2_3.index t = ![0, 0] := by decide +kernel
/-- The third region writes all the counts. -/
theorem index2_4 : ∀ t : Fin grid2.N, win2_4.index t = ![0, 0] := by decide +kernel
/-- The third region's loop runs once per descriptor. -/
theorem trips2 : k2_t1_loop.trips = 512 := by decide +kernel

/-- The ids the updates read. -/
theorem block_ids (t : Fin cfg2.N) (b : Fin 512) : blk2 (at3 m) c 0 t (ix2 b 0) = BitVec.ofNat 32 (places m c b).val := by
  refine Eq.trans ?_ ((congrFun (at3_of m c main_v1_0 (by decide)) (ix2 b 0)).trans (congrFun (at2_place m c) (ix2 b 0)))
  unfold blk2
  blk_ext [index2_0]

/-- The descriptors the updates read. -/
theorem block_descs (t : Fin cfg2.N) (b : Fin 512) (j : Fin 256) : blk2 (at3 m) c 1 t (ix2 b j) = descs m c b j := by
  refine Eq.trans ?_ ((congrFun (at3_of m c main_v0_0 (by decide)) (ix2 b j)).trans (congrFun (at2_desc m c) (ix2 b j)))
  unfold blk2
  blk_ext [index2_1]

/-- The counts the updates start from. -/
theorem block_counts (t : Fin cfg2.N) (k : Fin 8192) : blk2 (at3 m) c 2 t (ix2 k 0) = counts m c k := by
  refine Eq.trans ?_ (at3_counts m c k)
  unfold blk2
  blk_ext [index2_2]

/-- The anchors the updates start from. -/
theorem block_bank (k : Fin 8192) (j : Fin 256) : anchorsAt (at3 m) c (ix2 k j) = anchors m c k j := by
  refine Eq.trans ?_ ((congrFun (at3_of m c main_arg1 (by decide)) (ix2 k j)).trans (congrFun (at2_arg1 m c) (ix2 k j)))
  unfold anchorsAt
  blk_ext []

/-- Every id names an anchor: what the third region needs. -/
theorem ids_ok (c : Dev nD) (t : Fin cfg2.N) (k : Fin k2_t1_loop.trips) : k2_chk1 (idAt (F := Ideal) (blk2 (at3 m) c 0 t) k) := by
  rw [idAt_eq, block_ids]
  exact chk_of _

/-- The anchors and counts after all the updates. -/
def final : Anchors.State := Anchors.updates (places m c) (descs m c) (anchors m c, counts m c) 512

/-- The third region's accumulators hold the anchors and counts after all the updates. -/
theorem ema_final (t : Fin cfg2.N) :
    plain (emaEnd (blk2 (at3 m) c 0 t) (blk2 (at3 m) c 1 t) (anchorsAt (at3 m) c, k2_pay1 (blk2 (at3 m) c 2 t))) = final m c := by
  rw [emaEnd_of _ _ _ (ids_ok m c t), plain_run _ _ _ (places m c) (fun k => block_ids m c t k) _ _ le_rfl, trips2]
  unfold final
  congr 1
  · exact funext fun b => funext fun j => block_descs m c t b j
  · refine Prod.ext (funext fun k => funext fun j => block_bank m c k j) (funext fun k => ?_)
    refine Eq.trans ?_ (block_counts m c t k)
    pointwise [plain, k2_pay1]

/-- After the third region its first output holds the final anchors. -/
theorem at4_anchors : at4 m c (Proc.devRef .tc main_v3_0) = (fun i => (final m c).1 (i 0) (i 1) : Vec Ideal S8192x256 .f32) := by
  refine (afterRegion_arr (dat2 (at3 m) c) (at3 m c) launch2.win.arr_inj 3).trans
    ((dat2 (at3 m) c).arrAt_eq_of_covers 3 _ (by decide +kernel) fun t _ y => ?_)
  rw [dat2_after3]
  idx_vars y
  have e0 : (((cfg2.win 3).blk t).view.emb (ix2 y0 y1) 0 : Fin 8192) = y0 := Fin.ext (by blk_simp [index2_3])
  have e1 : (((cfg2.win 3).blk t).view.emb (ix2 y0 y1) 1 : Fin 256) = y1 := Fin.ext (by blk_simp [index2_3])
  rw [e0, e1]
  exact congrFun (congrFun (congrArg Prod.fst (ema_final m c t)) y0) y1

/-- After the third region its second output holds the final counts. -/
theorem at4_counts : at4 m c (Proc.devRef .tc main_v3_1) = (fun i => (final m c).2 (i 0) : Vec Ideal S8192x1 .f32) := by
  refine (afterRegion_arr (dat2 (at3 m) c) (at3 m c) launch2.win.arr_inj 4).trans
    ((dat2 (at3 m) c).arrAt_eq_of_covers 4 _ (by decide +kernel) fun t _ y => ?_)
  rw [dat2_after4]
  idx_vars y
  have e0 : (((cfg2.win 4).blk t).view.emb (ix2 y0 y1) 0 : Fin 8192) = y0 := Fin.ext (by blk_simp [index2_4])
  rw [e0]
  obtain rfl : y1 = 0 := Subsingleton.elim _ _
  exact congrFun (congrArg Prod.snd (ema_final m c t)) y0

/-- The third region leaves the ids. -/
theorem at4_place : at4 m c (Proc.devRef .tc main_v1_0) = (fun i => BitVec.ofNat 32 (places m c (i 0)).val : Vec Ideal S512x1 .i32) :=
  (afterRegion_keeps (dat2 (at3 m) c) (at3 m c) launch2.win.arr_inj (dat2_A (at3 m) c) main_v1_0 (by decide)).trans
    ((at3_of m c main_v1_0 (by decide)).trans (at2_place m c))

/-! ## The results and the arguments at the end -/

/-- The last reshapes leave what they do not write. -/
theorem at5_of (r : Ref sig .tc) (h : r ∉ hostOps3_W) : at5 m c (Proc.devRef .tc r) = at4 m c (Proc.devRef .tc r) :=
  StableHlo.after_of_writes_sub hostOps3 _ hostOps3_writes h

/-- The first result: the nearest anchors' places. -/
theorem end_places : at5 m c (Proc.devRef .tc main_v4) = (fun i => BitVec.ofNat 32 (places m c (i 0)).val : Vec Ideal S512 .i32) := by
  funext i
  idx_vars i
  unfold at5
  after_reads_simp
  refine Eq.trans ?_ (congrFun (at4_place m c) (ix2 i0 0))
  pointwise []

/-- The second result: the final anchors. -/
theorem end_anchors : at5 m c (Proc.devRef .tc main_v3_0) = (fun i => (final m c).1 (i 0) (i 1) : Vec Ideal S8192x256 .f32) :=
  (at5_of m c main_v3_0 (by decide)).trans (at4_anchors m c)

/-- The third result: the final counts. -/
theorem end_counts : at5 m c (Proc.devRef .tc main_v5) = (fun i => (final m c).2 (i 0) : Vec Ideal S8192 .f32) := by
  funext i
  idx_vars i
  unfold at5
  after_reads_simp
  refine Eq.trans ?_ (congrFun (at4_counts m c) (ix2 i0 0))
  pointwise []

/-- The arguments are what they were. -/
theorem end_arg0 : at5 m c (Proc.devRef .tc main_arg0) = m (c, Proc.devRef .tc main_arg0) :=
  (at5_of m c main_arg0 (by decide)).trans ((afterRegion_of_not_arr (dat2 (at3 m) c) (at3 m c) (by decide)).trans
    ((at3_of m c main_arg0 (by decide)).trans ((afterRegion_of_not_arr (dat1 (at1 m) c) (at1 m c) (by decide)).trans
      (afterRegion_keeps (dat0 (at0 m) c) (at0 m c) launch0.win.arr_inj (dat0_A (at0 m) c) main_arg0 (by decide)))))
/-- The second argument is what it was. -/
theorem end_arg1 : at5 m c (Proc.devRef .tc main_arg1) = m (c, Proc.devRef .tc main_arg1) :=
  (at5_of m c main_arg1 (by decide)).trans ((afterRegion_of_not_arr (dat2 (at3 m) c) (at3 m c) (by decide)).trans
    ((at3_of m c main_arg1 (by decide)).trans (at2_arg1 m c)))
/-- The third argument is what it was. -/
theorem end_arg2 : at5 m c (Proc.devRef .tc main_arg2) = m (c, Proc.devRef .tc main_arg2) :=
  (at5_of m c main_arg2 (by decide)).trans ((afterRegion_of_not_arr (dat2 (at3 m) c) (at3 m c) (by decide)).trans
    ((at3_of m c main_arg2 (by decide)).trans (at2_arg2 m c)))

end Cert.KernelIdeal.Hand

end
-- ==== Proof.RefArgmin.lean ====
/- The reference's lowest place of a least distance: a left fold that keeps the smaller of two (value, place) pairs. -/
module

public import proofs.«01_k».proof.Proof.Maths
public import proofs.«01_k».proof.Proof.Gen.ReferenceIdeal
public import Idealize.ShloMosaic.Lib.WordArith

@[expose] public section

set_option maxRecDepth 16384

noncomputable section

namespace Cert.ReferenceIdeal.Hand

open Cert.ReferenceIdeal Cert.ReferenceIdeal.Gen
open Idealize.ShloMosaic

/-- A distance and its place. -/
abbrev Pair : Type := EReal × BitVec 32

/-- A pair comes no later than another: its value is less, or the values agree and its place is no higher. -/
def Le (p q : Pair) : Prop := p.1 < q.1 ∨ (p.1 = q.1 ∧ p.2.toInt ≤ q.2.toInt)

/-- A pair is no later than itself. -/
theorem Le.refl (p : Pair) : Le p p := .inr ⟨rfl, le_rfl⟩

/-- Being no later passes along a chain. -/
theorem Le.trans {p q r : Pair} (h : Le p q) (h' : Le q r) : Le p r := by
  rcases h with h | ⟨h, k⟩ <;> rcases h' with h' | ⟨h', k'⟩
  · exact .inl (h.trans h')
  · exact .inl (h' ▸ h)
  · exact .inl (h ▸ h')
  · exact .inr ⟨h.trans h', k.trans k'⟩

/-- The fold's step returns one of its two pairs, and that one comes no later than either. -/
theorem step_spec (p q : Pair) :
    (reducer_argmin_f32_i32 (F := Ideal) p q = p ∨ reducer_argmin_f32_i32 (F := Ideal) p q = q)
      ∧ Le (reducer_argmin_f32_i32 (F := Ideal) p q) p ∧ Le (reducer_argmin_f32_i32 (F := Ideal) p q) q := by
  have key : reducer_argmin_f32_i32 (F := Ideal) p q
      = (if p.1 < q.1 then p.1 else q.1, if p.1 < q.1 ∨ (p.1 = q.1 ∧ p.2.toInt < q.2.toInt) then p.2 else q.2) := by
    unfold reducer_argmin_f32_i32
    pointwise []
    by_cases h1 : p.1 < q.1 <;> by_cases h2 : p.1 = q.1 <;> by_cases h3 : p.2.toInt < q.2.toInt <;>
      simp [Scalar.select, IntOp.ori, IntOp.andi, IntOp.cmpi, BitVec.slt, h1, h2, h3]
  rw [key]
  obtain ⟨a, i⟩ := p
  obtain ⟨b, j⟩ := q
  dsimp only
  rcases lt_trichotomy a b with h | rfl | h
  · rw [if_pos h, if_pos (.inl h)]
    exact ⟨.inl rfl, .refl _, .inl h⟩
  · rw [if_neg (lt_irrefl a)]
    by_cases hij : i.toInt < j.toInt
    · rw [if_pos (.inr ⟨rfl, hij⟩)]
      exact ⟨.inl rfl, .refl _, .inr ⟨rfl, hij.le⟩⟩
    · rw [if_neg (by rintro (h | h); exacts [lt_irrefl a h, hij h.2])]
      exact ⟨.inr rfl, .inr ⟨rfl, not_lt.mp hij⟩, .refl _⟩
  · rw [if_neg h.not_gt, if_neg (by rintro (h' | h'); exacts [h.not_gt h', h.ne' h'.1])]
    exact ⟨.inr rfl, .inl h, .refl _⟩

/-- The whole fold returns its first pair or one of the list's, and that one comes no later than any of them. -/
theorem fold_spec : ∀ (l : List Pair) (p : Pair),
    (l.foldl (reducer_argmin_f32_i32 (F := Ideal)) p = p ∨ l.foldl (reducer_argmin_f32_i32 (F := Ideal)) p ∈ l)
      ∧ Le (l.foldl (reducer_argmin_f32_i32 (F := Ideal)) p) p ∧ ∀ q ∈ l, Le (l.foldl (reducer_argmin_f32_i32 (F := Ideal)) p) q
  | [], p => ⟨.inl rfl, .refl p, fun _ h => nomatch h⟩
  | q :: l, p => by
    obtain ⟨hm, hp, hl⟩ := fold_spec l (reducer_argmin_f32_i32 (F := Ideal) p q)
    obtain ⟨hs, hsp, hsq⟩ := step_spec p q
    rw [List.foldl_cons]
    refine ⟨?_, hp.trans hsp, fun r hr => ?_⟩
    · rcases hm with hm | hm
      · rw [hm]
        exact hs.imp id fun h => by rw [h]; exact List.mem_cons_self
      · exact .inr (List.mem_cons_of_mem _ hm)
    · rcases List.mem_cons.mp hr with rfl | hr
      · exact hp.trans hsq
      · exact hl r hr

/-- The reduction's fiber over a row holds exactly the row's entries, each with its place. -/
theorem mem_fiber (x : Vec Ideal S512x8192 .f32) (b : Fin 512) (q : Pair) :
    q ∈ Host.argReduceFiber x (iotaInDim S512x8192 32 1) reducesTo_S512x8192_S512_d1 (ix1 b)
      ↔ ∃ k : Fin 8192, q = (x (ix2 b k), BitVec.ofNat 32 k.val) := by
  unfold Host.argReduceFiber
  simp only [List.mem_map, List.mem_filter, List.mem_finRange, true_and, decide_eq_true_eq]
  have hd : ∀ (r : Fin 512) (k : Fin 8192), Shape.ReducesTo.drop reducesTo_S512x8192_S512_d1 (ix2 r k) = ix1 r := fun r k => by
    funext a
    match a with
    | ⟨0, _⟩ => rfl
  have hi : ∀ (k : Fin 8192), iotaInDim S512x8192 32 1 (ix2 b k) = BitVec.ofNat 32 k.val := fun k => by pointwise []
  constructor
  · rintro ⟨n, hn, rfl⟩
    generalize S512x8192.rowMajor.symm n = i at hn ⊢
    idx_vars i
    rw [hd] at hn
    obtain rfl : i0 = b := congrFun hn 0
    exact ⟨i1, by rw [hi]⟩
  · rintro ⟨k, rfl⟩
    refine ⟨S512x8192.rowMajor (ix2 b k), ?_, ?_⟩
    · rw [Equiv.symm_apply_apply, hd]
    · rw [Equiv.symm_apply_apply, hi]

/-- A row's reduction returns the lowest place of its least value. -/
theorem argmin_low (x : Vec Ideal S512x8192 .f32) (b : Fin 512) {D : ℕ → EReal} {e : ℕ} (h : Anchors.Low D 8192 e)
    (hx : ∀ k : Fin 8192, x (ix2 b k) = D k.val) :
    (Host.argReduce (F := Ideal) reducer_argmin_f32_i32 x (iotaInDim S512x8192 32 1) (constant S_ .f32 0x7F800000#32) (constantI S_ 32 0#32)
      reducesTo_S512x8192_S512_d1 h_S_ (ix1 b)).2 = BitVec.ofNat 32 e := by
  rw [Ideal.argReduce_eq_reduce2, Host.reduce2_eq_foldl_fiber]
  have hi : ((constant (F := Ideal) S_ .f32 0x7F800000#32) (Shape.Idx.first h_S_), (constantI S_ 32 0#32) (Shape.Idx.first h_S_)) = ((⊤, 0#32) : Pair) := by
    refine Prod.ext ?_ rfl
    show Ideal.ofBits FTy.f32 2139095040#32 = ⊤
    simp [Ideal.ofBits, Ideal.ieee]
  have hs := fold_spec (Host.argReduceFiber x (iotaInDim S512x8192 32 1) reducesTo_S512x8192_S512_d1 (ix1 b)) (⊤, 0#32)
  rw [← hi] at hs
  generalize List.foldl (reducer_argmin_f32_i32 (F := Ideal)) _ _ = r at hs ⊢
  rw [hi] at hs
  obtain ⟨hm, -, hl⟩ := hs
  have he := h.1
  have hle : ∀ k : Fin 8192, Le r (D k.val, BitVec.ofNat 32 k.val) := fun k => by
    have := hl _ ((mem_fiber x b _).mpr ⟨k, rfl⟩)
    rwa [hx] at this
  have hr := hle ⟨e, he⟩
  rcases hm with rfl | hm
  · have h0 : e = 0 := by
      by_contra h0
      have hlt := (h.2 0 (by norm_num)).2 (Nat.pos_of_ne_zero h0)
      rcases hr with hr | hr
      · exact absurd hr not_top_lt
      · exact absurd (lt_of_eq_of_lt hr.1 hlt) not_top_lt
    rw [h0]
  · obtain ⟨k, rfl⟩ := (mem_fiber x b _).mp hm
    rw [hx] at hr
    dsimp only
    rcases hr with hr | ⟨hr, hk⟩
    · exact absurd hr (not_lt.mpr (h.2 k.val k.isLt).1)
    · dsimp only at hr hk
      rw [WordArith.toInt_ofNat_small _ (by have := k.isLt; omega), WordArith.toInt_ofNat_small _ (by omega)] at hk
      rcases (show k.val ≤ e by omega).lt_or_eq with hlt | rfl
      · exact absurd hr ((h.2 k.val k.isLt).2 hlt).ne'
      · rfl

end Cert.ReferenceIdeal.Hand

end
-- ==== Proof.RefEntry.lean ====
/- The reference before its loop: the descriptors, the places of their nearest anchors, and the loop's entry. -/
module

public import proofs.«01_k».proof.Proof.RefArgmin
public import proofs.«01_k».proof.Proof.Gen.ReferenceIdeal.Run

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe
open Idealize.ShloMosaic.StableHlo

variable (m : (ℓ : Loc nD τ sig) → Buf (Elt Ideal) ℓ) (c : Dev nD)

/-! ## The arguments as plain functions -/

/-- The prompts' token rows. -/
def prompts : Fin 512 → Fin 256 → Anchors.Row := fun b n j => (m (c, Proc.devRef .tc main_arg0) : Vec Ideal S512x256x256 .f32) (ix3 b n j)
/-- The anchors. -/
def anchors : Fin 8192 → Anchors.Row := fun k j => (m (c, Proc.devRef .tc main_arg1) : Vec Ideal S8192x256 .f32) (ix2 k j)
/-- The counts. -/
def counts : Fin 8192 → EReal := fun k => (m (c, Proc.devRef .tc main_arg2) : Vec Ideal S8192 .f32) (ix1 k)
/-- The prompts' descriptors. -/
def descs : Fin 512 → Anchors.Row := fun b => Anchors.desc (prompts m c b)
/-- The places of their nearest anchors. -/
def places : Fin 512 → Fin 8192 := fun b => Anchors.place (descs m c b) (anchors m c)

/-! ## The loop's entry -/

/-- The loop is entered with the descriptors. -/
theorem entry_desc : entryContents preI m c (Proc.devRef .tc main_v23_1) = (fun i => descs m c (i 0) (i 1) : Vec Ideal S512x256 .f32) := by
  simp only [entryContents, afterL_cons, afterL_nil]
  after_reads_simp
  simp -implicitDefEqProofs only [TRef.toBuf, TRef.ofBuf, cast_cast, cast_eq, id_eq]
  funext i
  idx_vars i
  pointwise []
  rfl

/-- The loop is entered with the anchors. -/
theorem entry_anchors : entryContents preI m c (Proc.devRef .tc main_v23_3) = m (c, Proc.devRef .tc main_arg1) := by
  simp only [entryContents, afterL_cons, afterL_nil]
  after_reads_simp
  rfl

/-- The loop is entered with the counts. -/
theorem entry_counts : entryContents preI m c (Proc.devRef .tc main_v23_4) = m (c, Proc.devRef .tc main_arg2) := by
  simp only [entryContents, afterL_cons, afterL_nil]
  after_reads_simp
  rfl

/-- The distance table. -/
theorem entry_dist : entryContents preI m c (Proc.devRef .tc main_v21)
    = (fun i => Anchors.dist (descs m c (i 0)) (anchors m c (i 1)) : Vec Ideal S512x8192 .f32) := by
  simp only [entryContents, afterL_cons, afterL_nil]
  after_reads_simp
  simp -implicitDefEqProofs only [TRef.toBuf, TRef.ofBuf, cast_cast, cast_eq, id_eq]
  funext i
  idx_vars i
  pointwise []
  rfl

/-- The places are those of the distance table's reduction. -/
theorem entry_argmin : entryContents preI m c (Proc.devRef .tc main_v22)
    = (fun j => (Host.argReduce (F := Ideal) reducer_argmin_f32_i32 (entryContents preI m c (Proc.devRef .tc main_v21)) (iotaInDim S512x8192 32 1)
        (constant S_ .f32 0x7F800000#32) (constantI S_ 32 0#32) reducesTo_S512x8192_S512_d1 h_S_ j).2 : Vec Ideal S512 .i32) := by
  simp only [entryContents, afterL_cons, afterL_nil]
  after_reads_simp
  simp -implicitDefEqProofs only [TRef.toBuf, TRef.ofBuf, cast_cast, cast_eq, id_eq]

/-- The reduction's result: the nearest anchors' places. -/
theorem entry_places : entryContents preI m c (Proc.devRef .tc main_v22) = (fun i => BitVec.ofNat 32 (places m c (i 0)).val : Vec Ideal S512 .i32) := by
  rw [entry_argmin, entry_dist]
  funext i
  idx_vars i
  obtain ⟨e, he⟩ := Anchors.Low.exists (Anchors.dists (descs m c i0) (anchors m c)) 8192 (Nat.succ_pos _)
  refine (argmin_low _ i0 he fun k => ?_).trans (by rw [Anchors.place_eq he]; rfl)
  unfold Anchors.dists
  simp only [Nat.mod_eq_of_lt k.isLt]
  rfl

/-- The loop is entered with the places. -/
theorem entry_ids : entryContents preI m c (Proc.devRef .tc main_v23_0) = (fun i => BitVec.ofNat 32 (places m c (i 0)).val : Vec Ideal S512 .i32) := by
  refine Eq.trans ?_ (entry_places m c)
  simp only [entryContents, afterL_cons, afterL_nil]
  after_reads_simp
  rfl

end Cert.ReferenceIdeal.Hand

end
-- ==== Proof.RefScatter.lean ====
/- The loop's two scatters read at an entry: one row put at a place, and one added to the count at a place. -/
module

public import proofs.«01_k».proof.Proof.Maths
public import proofs.«01_k».proof.Proof.Gen.ReferenceIdeal
public import Idealize.ShloMosaic.Lib.Routing.OpsSet
public import Idealize.ShloMosaic.Lib.Routing.OpsPair
public import Idealize.ShloMosaic.Lib.WordArith

@[expose] public section

set_option maxRecDepth 16384

noncomputable section

namespace Cert.ReferenceIdeal.Hand

open Cert.ReferenceIdeal Cert.ReferenceIdeal.Gen
open Idealize.ShloMosaic

variable (idx : IVec S1 32) (e : Fin 8192) (he : idx (ix1 0) = BitVec.ofNat 32 e.val)

include he in
/-- An element of the put row lands in row `e` at its own column. -/
theorem lands_row (j' : Fin 256) (r : Fin 8192) (j : Fin 256) :
    scatter_S8192x256_S1_S256_0_0_0_0.resultIdx? (ix1 j') idx = some (ix2 r j) ↔ r = e ∧ j' = j := by
  have hs0 : scatter_S8192x256_S1_S256_0_0_0_0.start (ix1 j') idx 0 = (e.val : Int) := by
    unfold ScatterDims.start
    rw [dif_pos (by decide), ← WordArith.toInt_ofNat_small e.val (by have := e.isLt; omega), ← he]
    exact congrArg (fun i => (idx i).toInt) (funext fun a => match a with | ⟨0, _⟩ => Subsingleton.elim (α := Fin 1) _ _)
  have hs1 : scatter_S8192x256_S1_S256_0_0_0_0.start (ix1 j') idx 1 = 0 := by
    unfold ScatterDims.start
    rw [dif_neg (by decide)]
  have hw0 : scatter_S8192x256_S1_S256_0_0_0_0.window (ix1 j') 0 = 0 := by
    unfold ScatterDims.window
    rw [dif_neg (by decide)]
  have hw1 : scatter_S8192x256_S1_S256_0_0_0_0.window (ix1 j') 1 = j'.val := by
    unfold ScatterDims.window
    rw [dif_pos (by decide)]
    rfl
  rw [Routing.resultIdx?_eq_some]
  constructor
  · intro h
    have h0 := h 0
    have h1 := h 1
    rw [hs0, hw0] at h0
    rw [hs1, hw1] at h1
    have h0' : (e.val : Int) + 0 = (r.val : Int) := h0
    have h1' : (0 : Int) + (j'.val : Int) = (j.val : Int) := h1
    exact ⟨Fin.ext (by omega), Fin.ext (by omega)⟩
  · rintro ⟨rfl, rfl⟩ a
    match a with
    | ⟨0, _⟩ => exact (congrArg₂ (fun (x : Int) (y : ℕ) => x + (y : Int)) hs0 hw0).trans (Int.add_zero _)
    | ⟨1, _⟩ => exact (congrArg₂ (fun (x : Int) (y : ℕ) => x + (y : Int)) hs1 hw1).trans (Int.zero_add _)

include he in
/-- Putting one row at `e` leaves every other row. -/
theorem scatter_row (x : Vec Ideal S8192x256 .f32) (v : Vec Ideal S256 .f32) (r : Fin 8192) (j : Fin 256) :
    Host.scatter scatter_S8192x256_S1_S256_0_0_0_0 (fun _ b => b) x idx v (ix2 r j) = if r = e then v (ix1 j) else x (ix2 r j) := by
  by_cases h : r = e
  · rw [if_pos h]
    refine Routing.scatter_set_hit _ x idx v _ _ (fun k hk => ?_) (ix1 j) ((lands_row idx e he j r j).mpr ⟨h, rfl⟩)
    idx_vars k
    rw [((lands_row idx e he k0 r j).mp hk).2]
  · rw [if_neg h]
    refine Routing.scatter_set_miss _ x idx v _ fun k hk => h ?_
    idx_vars k
    exact ((lands_row idx e he k0 r j).mp hk).1

include he in
/-- The one number added lands at entry `e`. -/
theorem lands_count (k : S_.Idx) (r : Fin 8192) : scatter_S8192_S1_S__n_0_0_0.resultIdx? k idx = some (ix1 r) ↔ r = e := by
  have hs0 : scatter_S8192_S1_S__n_0_0_0.start k idx 0 = (e.val : Int) := by
    unfold ScatterDims.start
    rw [dif_pos (by decide), ← WordArith.toInt_ofNat_small e.val (by have := e.isLt; omega), ← he]
    exact congrArg (fun i => (idx i).toInt) (funext fun a => match a with | ⟨0, _⟩ => Subsingleton.elim (α := Fin 1) _ _)
  have hw0 : scatter_S8192_S1_S__n_0_0_0.window k 0 = 0 := by
    unfold ScatterDims.window
    rw [dif_neg (by decide)]
  rw [Routing.resultIdx?_eq_some]
  constructor
  · intro h
    have h0 := h 0
    rw [hs0, hw0] at h0
    have h0' : (e.val : Int) + 0 = (r.val : Int) := h0
    exact Fin.ext (by omega)
  · rintro rfl a
    match a with
    | ⟨0, _⟩ => exact (congrArg₂ (fun (x : Int) (y : ℕ) => x + (y : Int)) hs0 hw0).trans (Int.add_zero _)

include he in
/-- Adding one number at `e` leaves every other entry. -/
theorem scatter_count (x : Vec Ideal S8192 .f32) (v : Vec Ideal S_ .f32) (r : Fin 8192) :
    Host.scatter scatter_S8192_S1_S__n_0_0_0 (FloatOps.addf (F := Ideal) (φ := .f32)) x idx v (ix1 r) = if r = e then x (ix1 r) + v ix0 else x (ix1 r) := by
  rw [Routing.scatter_at]
  simp only [lands_count idx e he]
  rw [show List.finRange S_.numel = [⟨0, by decide⟩] from by decide, List.foldl_cons, List.foldl_nil]
  by_cases h : r = e
  · rw [if_pos h, if_pos h]
    exact congrArg (fun y => x (ix1 r) + v y) (funext fun a => a.elim0)
  · rw [if_neg h, if_neg h]

end Cert.ReferenceIdeal.Hand

end
-- ==== Proof.RefLoop.lean ====
/- The reference's loop: each trip is one descriptor's update. -/
module

public import proofs.«01_k».proof.Proof.RefEntry
public import proofs.«01_k».proof.Proof.RefScatter

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe
open Idealize.ShloMosaic.StableHlo

/-! ## The slices a trip takes -/

/-- A slice of one entry whose start is inside the vector. -/
theorem slice_entry {α : Type} {N : ℕ} (x : (⟨1, ![N]⟩ : Shape).Idx → α) (start : Fin 1 → Int)
    (h : (⟨1, ![N]⟩ : Shape).Slices (fun _ => 0) ⟨1, ![1]⟩) (e : Fin N) (he : start 0 = (e.val : Int)) (j : (⟨1, ![1]⟩ : Shape).Idx) :
    Host.dynamicSlice ⟨1, ![1]⟩ x start h j = x (ix1 e) := by
  refine (Host.dynamicSlice_apply x start h j).trans (congrArg x (funext fun a => ?_))
  match a with
  | ⟨0, _⟩ =>
    have hj : (j 0).val = 0 := by have := (j 0).isLt; simp at this; omega
    exact Fin.ext ((congrArg₂ (· + ·) (Host.clampedStart_of_le h.1 start 0 e.val he e.isLt) hj).trans (Nat.add_zero _))

/-- A slice of one row whose start is inside the table. -/
theorem slice_row {α : Type} {N M : ℕ} (x : (⟨2, ![N, M]⟩ : Shape).Idx → α) (start : Fin 2 → Int)
    (h : (⟨2, ![N, M]⟩ : Shape).Slices (fun _ => 0) ⟨2, ![1, M]⟩) (e : Fin N) (he : start 0 = (e.val : Int)) (h1 : start 1 = 0) (i : Fin 1) (j : Fin M) :
    Host.dynamicSlice ⟨2, ![1, M]⟩ x start h (ix2 i j) = x (ix2 e j) := by
  refine (Host.dynamicSlice_apply x start h (ix2 i j)).trans (congrArg x (funext fun a => ?_))
  match a with
  | ⟨0, _⟩ =>
    exact Fin.ext ((congrArg₂ (· + ·) (Host.clampedStart_of_le h.1 start 0 e.val he e.isLt) (show i.val = 0 by omega)).trans (Nat.add_zero _))
  | ⟨1, _⟩ =>
    exact Fin.ext ((congrArg (· + j.val) (Host.clampedStart_of_le h.1 start 1 0 h1 (show 0 + M ≤ M by omega))).trans (Nat.zero_add _))

/-- An anchor's number read back as a signed word. -/
theorem toInt_place (e : Fin 8192) : (BitVec.ofNat 32 e.val).toInt = (e.val : Int) := WordArith.toInt_ofNat_small e.val (by have := e.isLt; omega)

/-- The slice of the counts at an anchor's number. -/
theorem slice_count (x : Vec Ideal S8192 .f32) (e : Fin 8192) :
    Host.dynamicSlice S1 x (fun k => (((![fun _ => BitVec.ofNat 32 e.val] : Fin 1 → (⟨S_, .i32⟩ : BufTy).Contents (Elt Ideal))) k (Shape.Idx.first h_S_)).toInt)
      sliceFits_S8192_S1 = (fun _ => x (ix1 e) : Vec Ideal S1 .f32) :=
  funext fun j => slice_entry x _ sliceFits_S8192_S1 e (toInt_place e) j

/-- The slice of the anchors at an anchor's number. -/
theorem slice_anchor (x : Vec Ideal S8192x256 .f32) (e : Fin 8192) :
    Host.dynamicSlice S1x256 x (fun k => (((![fun _ => BitVec.ofNat 32 e.val, select (cmpi .slt (constantI S_ 32 0#32) (constantI S_ 32 0#32)) (addi (constantI S_ 32 0#32) (constantI S_ 32 256#32)) (constantI S_ 32 0#32)] : Fin 2 → (⟨S_, .i32⟩ : BufTy).Contents (Elt Ideal))) k (Shape.Idx.first h_S_)).toInt)
      sliceFits_S8192x256_S1x256 = (fun i => x (ix2 e (i 1)) : Vec Ideal S1x256 .f32) := by
  funext i
  idx_vars i
  exact slice_row x _ sliceFits_S8192x256_S1x256 e (toInt_place e) rfl i0 i1

/-- The slice of the descriptors at a trip's number. -/
theorem slice_desc (x : Vec Ideal S512x256 .f32) (n : Fin 512) :
    Host.dynamicSlice S1x256 x (fun k => (((![fun _ => BitVec.ofNat 32 n.val, constantI S_ 32 0#32] : Fin 2 → (⟨S_, .i32⟩ : BufTy).Contents (Elt Ideal))) k (Shape.Idx.first h_S_)).toInt)
      sliceFits_S512x256_S1x256 = (fun i => x (ix2 n (i 1)) : Vec Ideal S1x256 .f32) := by
  funext i
  idx_vars i
  exact slice_row x _ sliceFits_S512x256_S1x256 n (WordArith.toInt_ofNat_small n.val (by have := n.isLt; omega)) rfl i0 i1

/-- An anchor's number is not negative, so the test for a negative number keeps it. -/
theorem wrap (e : Fin 8192) :
    select (cmpi .slt (fun _ => BitVec.ofNat 32 e.val : Vec Ideal S_ .i32) (constantI S_ 32 0#32))
      (addi (fun _ => BitVec.ofNat 32 e.val : Vec Ideal S_ .i32) (constantI S_ 32 8192#32)) (fun _ => BitVec.ofNat 32 e.val : Vec Ideal S_ .i32)
      = (fun _ => BitVec.ofNat 32 e.val : Vec Ideal S_ .i32) := by
  funext i
  have h : IntOp.cmpi .slt (BitVec.ofNat 32 e.val) 0#32 = 0#1 := by
    have := toInt_place e
    simp [IntOp.cmpi, BitVec.slt, this, not_lt.mpr (Int.natCast_nonneg e.val)]
  pointwise []
  rw [h]
  rfl

/-! ## A trip's values, of the buffers it reads -/

/-- The weight kept, of an id and the counts. -/
def keepOf (w : Vec Ideal S_ .i32) (cs : Vec Ideal S8192 .f32) : Vec Ideal S_ .f32 :=
  select (cmpf .olt (shapeCast S_ (Host.dynamicSlice S1 cs (fun k => (((![w] : Fin 1 → (⟨S_, .i32⟩ : BufTy).Contents (Elt Ideal))) k (Shape.Idx.first h_S_)).toInt) sliceFits_S8192_S1) shapeCasts_S1_S_) (constant (F := Ideal) S_ .f32 0x3F800000#32)) (constant (F := Ideal) S_ .f32 0x00000000#32) (constant (F := Ideal) S_ .f32 0x3F666666#32)

/-- The kept share of an anchor is that of its count. -/
theorem keepOf_at (e : Fin 8192) (cs : Vec Ideal S8192 .f32) : keepOf (fun _ => BitVec.ofNat 32 e.val) cs = fun _ => Anchors.keep (cs (ix1 e)) := by
  unfold keepOf
  rw [slice_count]
  funext i
  pointwise []
  rfl

/-- The weighted sum, of a weight, an id, the anchors, a trip's number and the descriptors. -/
def sumOf (q : Vec Ideal S_ .f32) (w : Vec Ideal S_ .i32) (ac : Vec Ideal S8192x256 .f32) (n : Vec Ideal S_ .i32) (ds : Vec Ideal S512x256 .f32) : Vec Ideal S256 .f32 :=
  addf (mulf (broadcastInDim S256 ![] bcast_S_S256 q) (shapeCast S256 (Host.dynamicSlice S1x256 ac (fun k => (((![w, select (cmpi .slt (constantI S_ 32 0#32) (constantI S_ 32 0#32)) (addi (constantI S_ 32 0#32) (constantI S_ 32 256#32)) (constantI S_ 32 0#32)] : Fin 2 → (⟨S_, .i32⟩ : BufTy).Contents (Elt Ideal))) k (Shape.Idx.first h_S_)).toInt) sliceFits_S8192x256_S1x256) shapeCasts_S1x256_S256)) (mulf (broadcastInDim S256 ![] bcast_S_S256 (subf (constant (F := Ideal) S_ .f32 0x3F800000#32) q)) (shapeCast S256 (Host.dynamicSlice S1x256 ds (fun k => (((![n, constantI S_ 32 0#32] : Fin 2 → (⟨S_, .i32⟩ : BufTy).Contents (Elt Ideal))) k (Shape.Idx.first h_S_)).toInt) sliceFits_S512x256_S1x256) shapeCasts_S1x256_S256))

/-- The mixed row, entry by entry. -/
theorem sumOf_at (q : EReal) (e : Fin 8192) (ac : Vec Ideal S8192x256 .f32) (n : Fin 512) (ds : Vec Ideal S512x256 .f32) (j : Fin 256) :
    sumOf (fun _ => q) (fun _ => BitVec.ofNat 32 e.val) ac (fun _ => BitVec.ofNat 32 n.val) ds (ix1 j) = q * ac (ix2 e j) + (1 - q) * ds (ix2 n j) := by
  unfold sumOf
  rw [slice_anchor, slice_desc]
  pointwise []

/-- The anchors with one row replaced by a row scaled to length one. -/
def putOf (w : Vec Ideal S_ .i32) (v : Vec Ideal S256 .f32) (ac : Vec Ideal S8192x256 .f32) : Vec Ideal S8192x256 .f32 :=
  Host.scatter scatter_S8192x256_S1_S256_0_0_0_0 (fun _ b => b) ac (broadcastInDim S1 ![] bcast_S_S1 w) (Host.divf v (broadcastInDim S256 ![0] bcast_S1_S256_0 (maximumf (Host.sqrt (broadcastInDim S1 ![] bcast_S_S1 (Host.reduceAdd (mulf v v) (constant (F := Ideal) S_ .f32 0x00000000#32) reducesTo_S256_S_d0 h_S_))) (broadcastInDim S1 ![] bcast_S_S1 (constant (F := Ideal) S_ .f32 0x2B8CBCCC#32)))))

/-- The anchors with one row replaced, entry by entry. -/
theorem putOf_at (e : Fin 8192) (v : Vec Ideal S256 .f32) (ac : Vec Ideal S8192x256 .f32) (r : Fin 8192) (j : Fin 256) :
    putOf (fun _ => BitVec.ofNat 32 e.val) v ac (ix2 r j) = if r = e then Anchors.unit (fun l => v (ix1 l)) j else ac (ix2 r j) := by
  unfold putOf
  rw [scatter_row _ e rfl]
  refine congrArg (fun y => if r = e then y else ac (ix2 r j)) ?_
  pointwise []
  rfl

/-- The counts with one of them raised. -/
def raiseOf (w : Vec Ideal S_ .i32) (cs : Vec Ideal S8192 .f32) : Vec Ideal S8192 .f32 :=
  Host.scatter scatter_S8192_S1_S__n_0_0_0 (FloatOps.addf (F := Ideal) (φ := .f32)) cs (broadcastInDim S1 ![] bcast_S_S1 w) (constant (F := Ideal) S_ .f32 0x3F800000#32)

/-- The counts with one raised, entry by entry. -/
theorem raiseOf_at (e : Fin 8192) (cs : Vec Ideal S8192 .f32) (r : Fin 8192) :
    raiseOf (fun _ => BitVec.ofNat 32 e.val) cs (ix1 r) = if r = e then cs (ix1 r) + 1 else cs (ix1 r) := by
  unfold raiseOf
  rw [scatter_count _ e rfl]
  refine congrArg (fun y => if r = e then y else cs (ix1 r)) ?_
  pointwise []

/-! ## One trip -/

section Trip

variable (V : Valuation τ sig (Elt Ideal)) (ks : Fin 512 → Fin 8192) (ds : Fin 512 → Anchors.Row) (n : Fin 512)
  (hk : V (Proc.devRef .tc main_v23_0) = (fun i => BitVec.ofNat 32 (ks (i 0)).val : Vec Ideal S512 .i32))
  (hd : V (Proc.devRef .tc main_v23_1) = (fun i => ds (i 0) (i 1) : Vec Ideal S512x256 .f32))
  (hn : V (Proc.devRef .tc main_v23_2) = (fun _ => BitVec.ofNat 32 n.val : Vec Ideal S_ .i32))

/-- The anchors and counts a trip starts from, as plain functions. -/
def bank : Anchors.State :=
  (fun k j => (V (Proc.devRef .tc main_v23_3) : Vec Ideal S8192x256 .f32) (ix2 k j), fun k => (V (Proc.devRef .tc main_v23_4) : Vec Ideal S8192 .f32) (ix1 k))

/-- An entry of the pair's anchors is the buffer's. -/
theorem bank_row (r : Fin 8192) (j : Fin 256) : (bank V).1 r j = (V (Proc.devRef .tc main_v23_3) : Vec Ideal S8192x256 .f32) (ix2 r j) := rfl
/-- An entry of the pair's counts is the buffer's. -/
theorem bank_count (r : Fin 8192) : (bank V).2 r = (V (Proc.devRef .tc main_v23_4) : Vec Ideal S8192 .f32) (ix1 r) := rfl

include hk hn in
/-- A trip's id is its descriptor's place. -/
theorem trip_id : res_main_while0b_v24 V = (fun _ => BitVec.ofNat 32 (ks n).val : Vec Ideal S_ .i32) := by
  unfold res_main_while0b_v24
  rw [hk, hn]
  funext i
  exact slice_entry (N := 512) (fun i => BitVec.ofNat 32 (ks (i 0)).val) _ _ n (WordArith.toInt_ofNat_small n.val (by have := n.isLt; omega)) _

include hk hn in
/-- The weight the chosen anchor keeps. -/
theorem trip_keep : res_main_while0b_v32 V = (fun _ => Anchors.keep ((bank V).2 (ks n)) : Vec Ideal S_ .f32) := by
  unfold res_main_while0b_v32
  rw [trip_id V ks n hk hn, wrap]
  exact keepOf_at (ks n) (V (Proc.devRef .tc main_v23_4))

include hk hd hn in
/-- The weighted sum of the chosen anchor's row and the descriptor. -/
theorem trip_row (j : Fin 256) : (res_main_while0b_v48 V : Vec Ideal S256 .f32) (ix1 j)
    = Anchors.keep ((bank V).2 (ks n)) * (bank V).1 (ks n) j + (1 - Anchors.keep ((bank V).2 (ks n))) * ds n j := by
  unfold res_main_while0b_v48
  rw [trip_id V ks n hk hn, wrap, trip_keep V ks n hk hn, hd, hn]
  exact sumOf_at (Anchors.keep ((bank V).2 (ks n))) (ks n) (V (Proc.devRef .tc main_v23_3)) n (fun i => ds (i 0) (i 1)) j

include hk hd hn in
/-- A trip is its descriptor's update. -/
theorem trip_update : bank (STEP V) = Anchors.update (ks n) (ds n) (bank V) := by
  refine Prod.ext (funext fun r => funext fun j => ?_) (funext fun r => ?_)
  · rw [bank_row, STEP_main_v23_3]
    have h : step_main_v23_3 V = putOf (fun _ => BitVec.ofNat 32 (ks n).val) (res_main_while0b_v48 V) (V (Proc.devRef .tc main_v23_3)) := by
      unfold step_main_v23_3
      rw [trip_id V ks n hk hn, wrap, id_eq]
      unfold putOf
      with_reducible_and_instances rfl
    rw [h]
    refine (putOf_at (ks n) (res_main_while0b_v48 V) (V (Proc.devRef .tc main_v23_3)) r j).trans ?_
    dsimp only [Anchors.update]
    rw [Function.update_apply]
    simp only [trip_row V ks ds n hk hd hn]
    split <;> rfl
  · rw [bank_count, STEP_main_v23_4]
    unfold step_main_v23_4
    rw [trip_id V ks n hk hn, wrap]
    refine (raiseOf_at (ks n) (V (Proc.devRef .tc main_v23_4)) r).trans ?_
    dsimp only [Anchors.update]
    rw [Function.update_apply]
    split
    · next h => rw [h]; rfl
    · rfl

end Trip

end Cert.ReferenceIdeal.Hand

end
-- ==== Proof.RefEnd.lean ====
/- The reference at its end: the loop's trips are the updates in order, and the results and arguments that are left. -/
module

public import proofs.«01_k».proof.Proof.RefLoop

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe
open Idealize.ShloMosaic.StableHlo

variable (m : (ℓ : Loc nD τ sig) → Buf (Elt Ideal) ℓ) (c : Dev nD)

/-! ## The loop's trips -/

/-- The anchors and counts after every descriptor's update. -/
def final : Anchors.State := Anchors.updates (places m c) (descs m c) (anchors m c, counts m c) 512

/-- What the loop carries before trip `k`: the step taken `k` times from the loop's entry. -/
abbrev before (k : ℕ) : Valuation τ sig (Elt Ideal) := (STEP (F := Ideal))^[k] (entryContents preI m c)

/-- One more trip is one more step. -/
theorem before_succ (k : ℕ) : before m c (k + 1) = STEP (before m c k) := Function.iterate_succ_apply' _ _ _

/-- Every trip finds the places. -/
theorem before_ids : ∀ k, before m c k (Proc.devRef .tc main_v23_0) = (fun i => BitVec.ofNat 32 (places m c (i 0)).val : Vec Ideal S512 .i32)
  | 0 => entry_ids m c
  | k + 1 => by rw [before_succ]; exact (STEP_main_v23_0 _).trans (before_ids k)

/-- Every trip finds the descriptors. -/
theorem before_desc : ∀ k, before m c k (Proc.devRef .tc main_v23_1) = (fun i => descs m c (i 0) (i 1) : Vec Ideal S512x256 .f32)
  | 0 => entry_desc m c
  | k + 1 => by rw [before_succ]; exact (STEP_main_v23_1 _).trans (before_desc k)

/-- Trip `k` finds its own number. -/
theorem before_number (k : ℕ) : before m c k (Proc.devRef .tc main_v23_2) = (fun _ => BitVec.ofNat 32 k : Vec Ideal S_ .i32) := by
  refine ((atK_agree m c k main_v23_2 (by decide)).symm.trans (atK_ctr m c k)).trans (funext fun _ => ?_)
  show (0#32 + BitVec.ofNat 32 k * 1#32) = BitVec.ofNat 32 k
  rw [BitVec.mul_one, BitVec.zero_add]

/-- Before trip `k` the anchors and counts are those after the first `k` descriptors' updates. -/
theorem before_bank : ∀ k, k ≤ 512 → bank (before m c k) = Anchors.updates (places m c) (descs m c) (anchors m c, counts m c) k
  | 0, _ => by
    refine Prod.ext (funext fun r => funext fun j => ?_) (funext fun r => ?_)
    · exact congrFun (entry_anchors m c) (ix2 r j)
    · exact congrFun (entry_counts m c) (ix1 r)
  | k + 1, h => by
    rw [before_succ, trip_update (before m c k) (places m c) (descs m c) ⟨k, h⟩ (before_ids m c k) (before_desc m c k) (before_number m c k),
      before_bank k (Nat.le_of_succ_le h)]
    exact (Anchors.updates_succ (places m c) (descs m c) (anchors m c, counts m c) ⟨k, h⟩).symm

/-! ## What the loop leaves -/

/-- The contents at the end. -/
abbrev atEnd : Valuation τ sig (Elt Ideal) := finalContents condOps preI bodyI postI 512 m c

/-- What the loop carries ends as the steps leave it. -/
theorem end_carried (r : Ref sig .tc) (h : r ∈ carriedRefs) : atEnd m c (Proc.devRef .tc r) = before m c 512 (Proc.devRef .tc r) :=
  (cond_keeps (atK m 512 c) r h).trans (atK_agree m c 512 r h)

/-- What one trip writes. -/
abbrev written : List (Ref sig .tc) :=
  while0Ops0_W ++ while0Ops0_1_W ++ while0Ops0_2_W ++ while0Ops0_3_W ++ while0Ops0_4_W ++ while0Ops0_5_W ++ while0Ops0_6_W

/-- A trip leaves alone what neither the condition nor the body writes. -/
theorem trip_of (V : Valuation τ sig (Elt Ideal)) (r : Ref sig .tc) (hc : r ∉ condOps_W) (h : r ∉ written) :
    afterL bodyI (after condOps V) (Proc.devRef .tc r) = V (Proc.devRef .tc r) := by
  simp only [written, List.mem_append, not_or] at h
  obtain ⟨⟨⟨⟨⟨⟨h0, h1⟩, h2⟩, h3⟩, h4⟩, h5⟩, h6⟩ := h
  simp only [afterL_cons, afterL_nil]
  rw [after_of_writes_sub while0Ops0_6 _ while0Ops0_6_writes h6, after_of_writes_sub while0Ops0_5 _ while0Ops0_5_writes h5,
    after_of_writes_sub while0Ops0_4 _ while0Ops0_4_writes h4, after_of_writes_sub while0Ops0_3 _ while0Ops0_3_writes h3,
    after_of_writes_sub while0Ops0_2 _ while0Ops0_2_writes h2, after_of_writes_sub while0Ops0_1 _ while0Ops0_1_writes h1,
    after_of_writes_sub while0Ops0 _ while0Ops0_writes h0, after_of_writes_sub condOps _ condOps_writes hc]

/-- What no trip writes is at every trip as the loop found it. -/
theorem trips_of (r : Ref sig .tc) (hc : r ∉ condOps_W) (h : r ∉ written) :
    ∀ k, atK m k c (Proc.devRef .tc r) = entryContents preI m c (Proc.devRef .tc r)
  | 0 => rfl
  | k + 1 => (trip_of (atK m k c) r hc h).trans (trips_of r hc h k)

/-- What no trip writes ends as the loop found it. -/
theorem end_of (r : Ref sig .tc) (hc : r ∉ condOps_W) (h : r ∉ written) :
    atEnd m c (Proc.devRef .tc r) = entryContents preI m c (Proc.devRef .tc r) :=
  (after_of_writes_sub condOps _ condOps_writes hc).trans (trips_of m c r hc h 512)

/-! ## The results and the arguments at the end -/

/-- The first result: the nearest anchors' places. -/
theorem end_places : atEnd m c (Proc.devRef .tc main_v22) = (fun i => BitVec.ofNat 32 (places m c (i 0)).val : Vec Ideal S512 .i32) :=
  (end_of m c main_v22 (by decide) (by decide)).trans (entry_places m c)

/-- The anchors' buffer read off the pair. -/
theorem anchors_of (V : Valuation τ sig (Elt Ideal)) (s : Anchors.State) (h : bank V = s) :
    V (Proc.devRef .tc main_v23_3) = (fun i => s.1 (i 0) (i 1) : Vec Ideal S8192x256 .f32) := by
  funext i
  idx_vars i
  exact congrFun (congrFun (congrArg Prod.fst h) i0) i1

/-- The counts' buffer read off the pair. -/
theorem counts_of (V : Valuation τ sig (Elt Ideal)) (s : Anchors.State) (h : bank V = s) :
    V (Proc.devRef .tc main_v23_4) = (fun i => s.2 (i 0) : Vec Ideal S8192 .f32) := by
  funext i
  idx_vars i
  exact congrFun (congrArg Prod.snd h) i0

/-- At the end the pair is the final one. -/
theorem final_bank : bank (before m c 512) = final m c := before_bank m c 512 le_rfl

/-- The second result: the final anchors. -/
theorem end_anchors : atEnd m c (Proc.devRef .tc main_v23_3) = (fun i => (final m c).1 (i 0) (i 1) : Vec Ideal S8192x256 .f32) :=
  (end_carried m c main_v23_3 (by decide)).trans (anchors_of _ _ (final_bank m c))

/-- The third result: the final counts. -/
theorem end_counts : atEnd m c (Proc.devRef .tc main_v23_4) = (fun i => (final m c).2 (i 0) : Vec Ideal S8192 .f32) :=
  (end_carried m c main_v23_4 (by decide)).trans (counts_of _ _ (final_bank m c))

/-- What no stretch before the loop writes is at the loop's entry as launched. -/
theorem entry_of (r : Ref sig .tc) (h : r ∉ hostOps0_W ++ hostOps0_1_W ++ hostOps0_2_W ++ hostOps0_3_W ++ hostOps0_4_W ++ hostOps0_5_W ++ hostOps0_6_W ++ hostOps0_7_W ++ hostOps0_8_W) :
    entryContents preI m c (Proc.devRef .tc r) = m (c, Proc.devRef .tc r) := by
  simp only [List.mem_append, not_or] at h
  obtain ⟨⟨⟨⟨⟨⟨⟨⟨h0, h1⟩, h2⟩, h3⟩, h4⟩, h5⟩, h6⟩, h7⟩, h8⟩ := h
  simp only [entryContents, afterL_cons, afterL_nil]
  rw [after_of_writes_sub hostOps0_8 _ hostOps0_8_writes h8, after_of_writes_sub hostOps0_7 _ hostOps0_7_writes h7,
    after_of_writes_sub hostOps0_6 _ hostOps0_6_writes h6, after_of_writes_sub hostOps0_5 _ hostOps0_5_writes h5,
    after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1,
    after_of_writes_sub hostOps0 _ hostOps0_writes h0]

/-- The first argument is what it was. -/
theorem end_arg0 : atEnd m c (Proc.devRef .tc main_arg0) = m (c, Proc.devRef .tc main_arg0) :=
  (end_of m c main_arg0 (by decide) (by decide)).trans (entry_of m c main_arg0 (by decide))
/-- The second argument is what it was. -/
theorem end_arg1 : atEnd m c (Proc.devRef .tc main_arg1) = m (c, Proc.devRef .tc main_arg1) :=
  (end_of m c main_arg1 (by decide) (by decide)).trans (entry_of m c main_arg1 (by decide))
/-- The third argument is what it was. -/
theorem end_arg2 : atEnd m c (Proc.devRef .tc main_arg2) = m (c, Proc.devRef .tc main_arg2) :=
  (end_of m c main_arg2 (by decide) (by decide)).trans (entry_of m c main_arg2 (by decide))

end Cert.ReferenceIdeal.Hand

end
-- ==== Proof.RefRun.lean ====
/- The reference's run: what every final state holds in memory, and that every semaphore counter reads zero there. -/
module

public import proofs.«01_k».proof.Proof.Gen.ReferenceIdeal.Run
public import Idealize.ShloMosaic.Lib.Pipeline.RegionsLoop
public import Idealize.ShloMosaic.Lib.StableHlo.RunLoop

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe
open Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (CSeg ucRefs)

variable {F : FTy → Type} [FloatOps F]

local notation "𝕄" => MT nD τ sig Unit (Elt F) ℕ (Option PUnit) ℕ

variable (m : (ℓ : Loc nD τ sig) → Buf (Elt F) ℓ) (ρ : Dev nD → PrngReg)

/-! ## The program has no region and no semaphore of its own -/

/-- No region: nothing is admitted. -/
abbrev noAdm : (p : Fin 0) → ((pcfgs (F := F)) p).Adm := fun p => p.elim0
/-- No region: no ticket. -/
abbrev noTicket : Fin 0 → Pipeline.Ticket (Ix := Unit) (Name := ℕ) (U := Option PUnit) (Lvl := ℕ) (nD := nD) (τ := τ) (pcfgs (F := F)) noAdm := fun j => j.elim0
/-- No region: no level is used. -/
abbrev noLevels : GSem nD τ sig → Finset Unit := fun _ => ∅
/-- The level of everything. -/
abbrev zeroLevel : GSem nD τ sig → Unit → ℕ := fun _ _ => 0

/-- With no region the map from regions' cells is one to one. -/
theorem no_cells : Function.Injective (Pipeline.cellOf (nD := nD) (τ := τ) (Pipeline.pin (pcfgs (F := F)) noAdm)) := fun k => k.1.elim0

/-- Every semaphore of a core is a scoped one. -/
theorem all_scoped : ∀ sm : SemLoc sig, sm.isScoped .tc = true := by decide

/-- What a core carries beside its buffers: its dues, none. -/
abbrev dues (c : Dev nD) : sProp 𝕄 := iprop(∃ W, owes (c : Thread nD τ) (0 : CellTallies nD τ sig Unit) W)

/-! ## The program as segments -/

/-- The loop's condition, with the core's dues beside it, answers whether another trip is due. -/
theorem cond_dues : LoopCond (pcfgs (F := F)) defs₀ Variants.none loops dues (main_while0_cond (F := F)) condOps bodyI (entryContents preI m) 512 := by
  intro k hk c bd
  have hc := cond_spec m k hk c bd
  have hpost : ∀ v : Elt F .i1,
      (iprop(iprop(⌜v = 1#1 ↔ k < 512⌝ ∗ boundary (c : Thread nD τ) ∗ held (c : Thread nD τ) (ucRefs τ sig) (after condOps (atK m k c))) ∗ dues c) : sProp 𝕄)
        ⊢ iprop(⌜v = 1#1 ↔ k < 512⌝ ∗ boundary (c : Thread nD τ) ∗ held (c : Thread nD τ) (ucRefs τ sig) (after condOps (atK m k c)) ∗ dues c) := fun v => by
    iintro ⟨⟨%hv, Hb, Hh⟩, HR⟩
    isplitr; · ipureintro; exact hv
    isplitl [Hb]; · iexact Hb
    isplitl [Hh] <;> iassumption
  refine BIBase.Entails.trans ?_ (((sep_mono_left hc).trans (wp_frame_r _ _ _)).trans (wp_mono _ _ _ hpost))
  iintro ⟨Hb, Hh, HR⟩
  isplitl [Hb Hh]; · isplitl [Hb] <;> iassumption
  iexact HR

/-- The stretches before the loop, then the loop. -/
def parts : List (CSeg (pcfgs (F := F)) noAdm defs₀ Variants.none noLevels zeroLevel loops noTicket) :=
  segsOf _ _ _ _ _ _ _ _ dues preI hpre (launchContents m)
    ++ [loopSeg _ _ _ _ _ _ _ _ 0 (main_while0_cond (F := F)) (main_while0_body (F := F)) rfl condOps bodyI hbodyI
      (by rw [while0_body_chain]; rfl) 512 (entryContents preI m) dues (cond_dues m)]

/-- The parts are the program's items. -/
theorem parts_prog : (parts m).map CSeg.prog = (preI.map fun ops => (seq ops : Prog _ PUnit)) ++ [HostLoop.enter 0] := by
  unfold parts
  rw [List.map_append, segsOf_prog]
  rfl

/-- Each part starts where the one before it ends. -/
theorem parts_chain : CSeg.Chains (fun c => iprop(held (c : Thread nD τ) (ucRefs τ sig) (launchContents m c) ∗ dues c)) (parts m)
    (fun c => iprop(held (c : Thread nD τ) (ucRefs τ sig) (finalContents condOps preI bodyI postI 512 m c) ∗ dues c)) := by
  unfold parts
  exact CSeg.Chains.append (segsOf_chains _ _ _ _ _ _ _ _ dues preI hpre _) ⟨fun _ => .rfl, fun _ => .rfl⟩

set_option maxRecDepth 100000 in
/-- Every run from counters at zero terminates with the buffers at the loop's last fold and every counter at zero. -/
theorem run : θ_run (defs (F := F)) (onTc (τ := τ) (main (F := F))) ⟨m, fun _ => 0, ρ⟩ (fun r =>
    (∀ c : Dev nD, ∀ b ∈ ucRefs τ sig, r.2.mem (c, b) = finalContents condOps preI bodyI postI 512 m c b) ∧ r.2.sem = fun _ => 0) := by
  refine Pipeline.θ_run_regions_loop_kit_sems (Ix := Unit) (Name := ℕ) (U := Option PUnit) (Lvl := ℕ) (J := Fin 0) (P := Fin 0) (Val := Elt F)
    (pcfgs (F := F)) noAdm no_cells defs₀ Variants.none noLevels zeroLevel loops noTicket m ρ main (parts m)
    (fun c Q => ?_) (CSeg.pairwise_disjoint_of_T_empty _ fun s _ => Finset.eq_empty_of_isEmpty s.T)
    (O₀ := 0) (hL := fun _ _ => rfl) (G := fun _ => iprop(emp)) (u₀ := 1) (hu₀ := ?_)
    (T₀ := fun c => iprop(held (c : Thread nD τ) (ucRefs τ sig) (launchContents m c) ∗ dues c))
    (Tₙ := fun c => held (c : Thread nD τ) (ucRefs τ sig) (finalContents condOps preI bodyI postI 512 m c))
    (hch := parts_chain m) (hinit := ?_)
    (QY := fun c s => ∀ b ∈ ucRefs τ sig, s.mem (c, b) = finalContents condOps preI bodyI postI 512 m c b)
    (hfin := fun c s' => ?_) (hQ := fun _ h hz => ⟨h, funext fun g => hz g (.inr (all_scoped g.2))⟩)
  · rw [main_chain c]
    show wp _ _ _ (Pipeline.chain ((parts m).map CSeg.prog)) Q ⊢ _
    rw [parts_prog]
    exact .rfl
  · iintro -
    imodintro
    isplitl []
    · rw [Finset.univ_eq_empty, BI.bigSep_empty]; iempintro
    iapply (show (BI.emp : sProp 𝕄) ⊢ bigSep Finset.univ (fun _ : Dev nD => (BI.emp : sProp 𝕄)) from by rw [BI.bigSep_emp_const])
    iempintro
  · refine Pipeline.initEach noLevels zeroLevel fun c => ?_
    rw [show unscopedBufs c (fun b => m ((c : Thread nD τ).loc b)) = held (c : Thread nD τ) (ucRefs τ sig) (launchContents m c) from
      Pipeline.unscopedBufs_held c (launchContents m c)]
    iintro ⟨⟨Hh, -, HO, -, -, -⟩, -⟩
    imodintro
    isplitl [Hh]; · iexact Hh
    iexists ∅; iexact HO
  · unfold held
    iintro ⟨Hh, HSI⟩
    ihave Hr := (pointsTo_read_all (ucRefs τ sig) (fun b => ((c : Dev nD), b)) (finalContents condOps preI bodyI postI 512 m c) s') $$ [Hh HSI]
    · isplitl [Hh] <;> iassumption
    icases Hr with ⟨%h, HSI⟩
    imodintro
    isplitr
    · ipureintro; exact h
    iexact HSI

end Cert.ReferenceIdeal.Hand

end
-- ==== Proof.Equation.lean ====
/- The equation: on the same arguments the kernel and the reference end with the same three results. -/
module

public import proofs.«01_k».proof.Proof.Arrays
public import proofs.«01_k».proof.Proof.RefEnd
public import proofs.«01_k».proof.Proof.RefRun

@[expose] public section

set_option maxRecDepth 16384

noncomputable section

namespace Cert.Equation

open Idealize.ShloMosaic Idealize.ShloMosaic.TcCoe Idealize.SL.Sem

/-! ## The two runs -/

/-- What every final state of the kernel holds: the three results, the arguments as they were, every counter at zero. -/
theorem kernel_run (m : (ℓ : Loc KernelIdeal.nD KernelIdeal.τ KernelIdeal.sig) → Buf (Elt Ideal) ℓ) (ρ : Dev KernelIdeal.nD → PrngReg) :
    θ_run (KernelIdeal.defs (F := Ideal)) (onTc (τ := KernelIdeal.τ) (KernelIdeal.main (F := Ideal))) ⟨m, fun _ => 0, ρ⟩ (fun r =>
      (∀ c : Dev KernelIdeal.nD,
        (r.2.mem (c, Proc.devRef .tc KernelIdeal.main_v4) = (fun i => BitVec.ofNat 32 (KernelIdeal.Hand.places m c (i 0)).val : Vec Ideal KernelIdeal.S512 .i32)
        ∧ r.2.mem (c, Proc.devRef .tc KernelIdeal.main_v3_0) = (fun i => (KernelIdeal.Hand.final m c).1 (i 0) (i 1) : Vec Ideal KernelIdeal.S8192x256 .f32)
        ∧ r.2.mem (c, Proc.devRef .tc KernelIdeal.main_v5) = (fun i => (KernelIdeal.Hand.final m c).2 (i 0) : Vec Ideal KernelIdeal.S8192 .f32))
        ∧ r.2.mem (c, Proc.devRef .tc KernelIdeal.main_arg0) = m (c, Proc.devRef .tc KernelIdeal.main_arg0)
        ∧ r.2.mem (c, Proc.devRef .tc KernelIdeal.main_arg1) = m (c, Proc.devRef .tc KernelIdeal.main_arg1)
        ∧ r.2.mem (c, Proc.devRef .tc KernelIdeal.main_arg2) = m (c, Proc.devRef .tc KernelIdeal.main_arg2))
      ∧ r.2.sem = fun _ => 0) := by
  have hmem : ∀ b : Ref KernelIdeal.sig .tc, (Proc.devRef .tc b : DevRef KernelIdeal.τ KernelIdeal.sig).isScoped = false →
      Proc.devRef .tc b ∈ Pipeline.ucRefs KernelIdeal.τ KernelIdeal.sig := fun b h => StableHlo.devRef_mem_ucRefs b h
  refine (θ_run _ _ _).mono (fun r hr => ⟨fun c => ?_, hr.2⟩) (KernelIdeal.Hand.run m ρ (KernelIdeal.Hand.ids_ok m))
  have h := hr.1 c
  exact ⟨⟨(h _ (hmem KernelIdeal.main_v4 (by decide))).trans (KernelIdeal.Hand.end_places m c),
      (h _ (hmem KernelIdeal.main_v3_0 (by decide))).trans (KernelIdeal.Hand.end_anchors m c),
      (h _ (hmem KernelIdeal.main_v5 (by decide))).trans (KernelIdeal.Hand.end_counts m c)⟩,
    (h _ (hmem KernelIdeal.main_arg0 (by decide))).trans (KernelIdeal.Hand.end_arg0 m c),
    (h _ (hmem KernelIdeal.main_arg1 (by decide))).trans (KernelIdeal.Hand.end_arg1 m c),
    (h _ (hmem KernelIdeal.main_arg2 (by decide))).trans (KernelIdeal.Hand.end_arg2 m c)⟩

/-- What every final state of the reference holds: the three results, the arguments as they were, every counter at zero. -/
theorem reference_run (m : (ℓ : Loc ReferenceIdeal.nD ReferenceIdeal.τ ReferenceIdeal.sig) → Buf (Elt Ideal) ℓ) (ρ : Dev ReferenceIdeal.nD → PrngReg) :
    θ_run (ReferenceIdeal.defs (F := Ideal)) (onTc (τ := ReferenceIdeal.τ) (ReferenceIdeal.main (F := Ideal))) ⟨m, fun _ => 0, ρ⟩ (fun r =>
      (∀ c : Dev ReferenceIdeal.nD,
        (r.2.mem (c, Proc.devRef .tc ReferenceIdeal.main_v22) = (fun i => BitVec.ofNat 32 (ReferenceIdeal.Hand.places m c (i 0)).val : Vec Ideal ReferenceIdeal.S512 .i32)
        ∧ r.2.mem (c, Proc.devRef .tc ReferenceIdeal.main_v23_3) = (fun i => (ReferenceIdeal.Hand.final m c).1 (i 0) (i 1) : Vec Ideal ReferenceIdeal.S8192x256 .f32)
        ∧ r.2.mem (c, Proc.devRef .tc ReferenceIdeal.main_v23_4) = (fun i => (ReferenceIdeal.Hand.final m c).2 (i 0) : Vec Ideal ReferenceIdeal.S8192 .f32))
        ∧ r.2.mem (c, Proc.devRef .tc ReferenceIdeal.main_arg0) = m (c, Proc.devRef .tc ReferenceIdeal.main_arg0)
        ∧ r.2.mem (c, Proc.devRef .tc ReferenceIdeal.main_arg1) = m (c, Proc.devRef .tc ReferenceIdeal.main_arg1)
        ∧ r.2.mem (c, Proc.devRef .tc ReferenceIdeal.main_arg2) = m (c, Proc.devRef .tc ReferenceIdeal.main_arg2))
      ∧ r.2.sem = fun _ => 0) := by
  have hmem : ∀ b : Ref ReferenceIdeal.sig .tc, (Proc.devRef .tc b : DevRef ReferenceIdeal.τ ReferenceIdeal.sig).isScoped = false →
      Proc.devRef .tc b ∈ Pipeline.ucRefs ReferenceIdeal.τ ReferenceIdeal.sig := fun b h => StableHlo.devRef_mem_ucRefs b h
  refine (θ_run _ _ _).mono (fun r hr => ⟨fun c => ?_, hr.2⟩) (ReferenceIdeal.Hand.run m ρ)
  have h := hr.1 c
  exact ⟨⟨(h _ (hmem ReferenceIdeal.main_v22 (by decide))).trans (ReferenceIdeal.Hand.end_places m c),
      (h _ (hmem ReferenceIdeal.main_v23_3 (by decide))).trans (ReferenceIdeal.Hand.end_anchors m c),
      (h _ (hmem ReferenceIdeal.main_v23_4 (by decide))).trans (ReferenceIdeal.Hand.end_counts m c)⟩,
    (h _ (hmem ReferenceIdeal.main_arg0 (by decide))).trans (ReferenceIdeal.Hand.end_arg0 m c),
    (h _ (hmem ReferenceIdeal.main_arg1 (by decide))).trans (ReferenceIdeal.Hand.end_arg1 m c),
    (h _ (hmem ReferenceIdeal.main_arg2 (by decide))).trans (ReferenceIdeal.Hand.end_arg2 m c)⟩

/-! ## The same arguments, the same results -/

section Same

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)
  (h0 : (m' (c, Proc.devRef .tc ReferenceIdeal.main_arg0) : Vec Ideal KernelIdeal.S512x256x256 .f32) = m (c, Proc.devRef .tc KernelIdeal.main_arg0))
  (h1 : (m' (c, Proc.devRef .tc ReferenceIdeal.main_arg1) : Vec Ideal KernelIdeal.S8192x256 .f32) = m (c, Proc.devRef .tc KernelIdeal.main_arg1))
  (h2 : (m' (c, Proc.devRef .tc ReferenceIdeal.main_arg2) : Vec Ideal KernelIdeal.S8192 .f32) = m (c, Proc.devRef .tc KernelIdeal.main_arg2))

include h0 in
/-- The prompts are the same, so the descriptors are. -/
theorem same_descs : ReferenceIdeal.Hand.descs m' c = KernelIdeal.Hand.descs m c :=
  funext fun b => congrArg Anchors.desc (funext fun n => funext fun j => congrFun h0 (ix3 b n j))

include h1 in
/-- The anchors are the same. -/
theorem same_anchors : ReferenceIdeal.Hand.anchors m' c = KernelIdeal.Hand.anchors m c :=
  funext fun k => funext fun j => congrFun h1 (ix2 k j)

include h2 in
/-- The counts are the same. -/
theorem same_counts : ReferenceIdeal.Hand.counts m' c = KernelIdeal.Hand.counts m c :=
  funext fun k => congrFun h2 (ix1 k)

include h0 h1 in
/-- The places are the same. -/
theorem same_places : ReferenceIdeal.Hand.places m' c = KernelIdeal.Hand.places m c := by
  unfold ReferenceIdeal.Hand.places KernelIdeal.Hand.places
  rw [same_descs m m' c h0, same_anchors m m' c h1]

include h0 h1 h2 in
/-- The final anchors and counts are the same. -/
theorem same_final : ReferenceIdeal.Hand.final m' c = KernelIdeal.Hand.final m c := by
  unfold ReferenceIdeal.Hand.final KernelIdeal.Hand.final
  rw [same_places m m' c h0 h1, same_descs m m' c h0, same_anchors m m' c h1, same_counts m m' c h2]

end Same

end Cert.Equation

end
-- ==== Proof.Update.lean ====
/- The update call by itself: it runs and leaves its four arguments as they were, at any reading of its floats, when every id
   names an anchor. What it computes is proved in the whole kernel; here no value is named but the ids. -/
module

public import proofs.«01_k».proof.Proof.Gen.Update.Frame
public import proofs.«01_k».proof.Proof.Gen.Update.Skeleton
public import proofs.«01_k».proof.Pre_ids_in_range
public import Idealize.ShloMosaic.Lib.Pipeline.Frame
public import Idealize.ShloMosaic.Lib.ReduceAll
public import Idealize.ShloMosaic.Lib.Tactic
public import Idealize.ShloMosaic.Lib.Transfers

@[expose] public section

set_option maxRecDepth 16384

noncomputable section

namespace Cert.Update.Hand

open Cert.Update Cert.Update.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

/-! ## The body -/

/-- A buffer held whole, whatever it holds. -/
abbrev anything {sp : Space} {S : Shape} {e : EltTy} (c : Dev nD) (M : Memref sig .tc sp S e) : sProp 𝕄 :=
  iprop(∃ d, owns (c : Thread nD τ) M fullShare d)

section Body

variable (c : Dev nD) (i : grid0.Coords) (arg1 : Memref sig .tc .smem S512x1 .i32) (harg1 : arg1.IsWhole)
  (arg2 : Memref sig .tc .vmem S512x256 .f32) (harg2 : arg2.IsWhole) (arg3 : Memref sig .tc .hbm S8192x256 .f32) (harg3 : arg3.IsWhole)
  (arg4 : Memref sig .tc .vmem S8192x1 .f32) (harg4 : arg4.IsWhole) (arg5 : Memref sig .tc .vmem S8192x256 .f32) (harg5 : arg5.IsWhole)
  (arg6 : Memref sig .tc .vmem S8192x1 .f32) (harg6 : arg6.IsWhole)

/-- What a trip needs and gives back: the ids, and the descriptors, anchors and counts at anything. -/
abbrev loopHolds (x : Vec F S512x1 .i32) : sProp 𝕄 :=
  iprop(owns (c : Thread nD τ) arg1 fullShare x ∗ anything (F := F) c arg2 ∗ anything (F := F) c arg5 ∗ anything (F := F) c arg6)

set_option maxHeartbeats 1000000 in
/-- One trip runs when every id names an anchor. -/
theorem trip (x : Vec F S512x1 .i32) (hin : ∀ y, k0_chk1 (x y)) (k : Fin k0_t1_loop.trips) :
    loopHolds (F := F) c arg1 arg2 arg5 arg6 x
    ⊢ wp frame (wpE (defs₀ (F := F)) Variants.none c none) Set.univ
        (k0_t1_body (F := F) i arg1 harg1 arg2 harg2 arg3 harg3 arg4 harg4 arg5 harg5 arg6 harg6 cc0_scratch0 k ())
        (fun _ => loopHolds (F := F) c arg1 arg2 arg5 arg6 x) := by
  have hk : k.val < 512 := Nat.lt_of_lt_of_le k.isLt k0_t1_abs.2.1
  unfold k0_t1_body loopHolds anything owns
  iintro ⟨⟨%f1, %hf1, H1⟩, ⟨%d2, %f2, -, H2⟩, ⟨%d5, %f5, -, H5⟩, ⟨%d6, %f6, -, H6⟩⟩
  subst hf1
  have hchk : k0_chk1 (arg1.view.readAt (Elt F) (Rect.unit (s := S512x1) (k0_off1 k) S1x1.size (k0_off1_inb k)).toLoadRect f1 (Shape.Idx.first (numel1_S1x1.symm ▸ Nat.one_pos))) := hin _
  sl_exec
  sl_step
  isplitl [H1]
  · iexists f1; isplitr; · ipureintro; rfl
    iexact H1
  isplitl [H2]
  · iexists _, _; isplitr; swap; · iexact H2
    ipureintro; rfl
  isplitl [H5]
  · iexists _, _; isplitr; swap; · iexact H5
    ipureintro; rfl
  iexists _, _; isplitr; swap; · iexact H6
  ipureintro; rfl

set_option maxHeartbeats 1000000 in
/-- The body runs when every id names an anchor, and gives back all it was lent. -/
theorem body (x : Vec F S512x1 .i32) (hin : ∀ y, k0_chk1 (x y)) (W : Waits sig Unit) (K : PUnit → sProp 𝕄)
    (f3 : Buf (Elt F) (arg3.view.loc (c : Thread nD τ))) :
    iprop(loopHolds (F := F) c arg1 arg2 arg5 arg6 x ∗ (arg3.view.loc (c : Thread nD τ) ↦{fullShare} f3) ∗ anything (F := F) c arg4
        ∗ semVal ((c : Thread nD τ), SemLoc.dma 5) 0 ∗ owes (c : Thread nD τ) 0 W
        ∗ (iprop(loopHolds (F := F) c arg1 arg2 arg5 arg6 x ∗ (arg3.view.loc (c : Thread nD τ) ↦{fullShare} f3) ∗ anything (F := F) c arg4
            ∗ semVal ((c : Thread nD τ), SemLoc.dma 5) 0 ∗ (∃ W', owes (c : Thread nD τ) 0 W')) -∗ K ⟨⟩))
      ⊢ wp frame (wpE (defs₀ (F := F)) Variants.none c none) Set.univ
          (cc0__ema_body (F := F) i arg1 harg1 arg2 harg2 arg3 harg3 arg4 harg4 arg5 harg5 arg6 harg6 cc0_scratch0) K := by
  simp only [cc0__ema_body_eq_skeleton]; unfold cc0__ema_body_skel
  unfold loopHolds anything owns
  iintro ⟨⟨⟨%f1, %hf1, H1⟩, ⟨%d2, %f2, -, H2⟩, ⟨%d5, %f5, -, H5⟩, ⟨%d6, %f6, -, H6⟩⟩, H3, ⟨%d4, %f4, -, H4⟩, Hs, HO, Hk⟩
  sl_exec
  rw [wp_bind]
  iapply (Scf.wp_for frame (wpE (defs₀ (F := F)) Variants.none (c : Thread nD τ) none) Set.univ k0_t1_loop.lb k0_t1_loop.ub k0_t1_loop.st k0_t1_ok ()
    (k0_t1_body (F := F) i arg1 harg1 arg2 harg2 arg3 harg3 arg4 harg4 arg5 harg5 arg6 harg6 cc0_scratch0)
    (fun _ _ => loopHolds (F := F) c arg1 arg2 arg5 arg6 x)
    (fun k _ => trip c i arg1 harg1 arg2 harg2 arg3 harg3 arg4 harg4 arg5 harg5 arg6 harg6 x hin k))
  isplitl [H1 H2 H5 H6]
  · unfold loopHolds anything owns
    isplitl [H1]
    · iexists f1; isplitr; · ipureintro; exact hf1
      iexact H1
    isplitl [H2]
    · iexists _, _; isplitr; swap; · iexact H2
      ipureintro; rfl
    isplitl [H5]
    · iexists _, _; isplitr; swap; · iexact H5
      ipureintro; rfl
    iexists _, _; isplitr; swap; · iexact H6
    ipureintro; rfl
  iintro %acc HL
  sl_step
  iapply Hk
  isplitl [HL]; · iexact HL
  isplitl [H3]; · iexact H3
  isplitl [H4]
  · iexists _, _; isplitr; swap; · iexact H4
    ipureintro; rfl
  isplitl [Hs]; · iexact Hs
  iexists _; iexact HO

end Body

/-! ## What the launch takes -/

variable (m : (ℓ : Loc nD τ sig) → Buf (Elt F) ℓ)

/-- The call's own semaphore, the one its copy of the anchors completes on. -/
abbrev osem : Fin 1 → SemLoc sig := fun _ => SemLoc.dma 5

/-- It is no window's. -/
theorem ownSemFacts : Pipeline.OwnSemFacts spec0 osem := by decide

/-- The anchors, read where they lie. -/
def read : Finset (Ref sig .tc) := {main_arg2}

/-- No window holds them. -/
theorem read_sub : read ⊆ Pipeline.restRefs sig spec0 := by decide

/-- What stands between the point's ends: the semaphore at zero and the anchors as launched. -/
theorem between_eq (c : Dev nD) :
    (Pipeline.ΦD osem spec0 read (V m) c : sProp 𝕄)
      = iprop(emp ∗ (∃ r, prngReg c r) ∗ semVal ((c : Thread nD τ), SemLoc.dma 5) 0
          ∗ ((Memref.whole main_arg2 : Memref sig .tc .hbm S8192x256 .f32).view.loc (c : Thread nD τ) ↦{fullShare} V m c main_arg2)) := by
  rw [Pipeline.ΦD_eq, scopedRest0_eq, Pipeline.ownSems0_eq_of_list c osem [0] (by decide) (by decide)]
  unfold read
  rw [BI.bigSep_eq_bigSepL_of_eq [main_arg2] (by decide) (by decide)]
  rfl

/-- Only the ids' window is followed; the others may hold anything. -/
def forgets : Fin 5 → Bool := ![false, true, true, true, true]

/-- The ids' buffer keeps the ids; nothing else is named. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨w + 1, h⟩ => Dat.unnamed (cfg := cfg0) ⟨w + 1, h⟩ t
  Φ _ := Pipeline.ΦD osem spec0 read (V m) c
  q _ := fullShare
  owed _ := 0

/-- The arrays are as launched. -/
theorem dats_A (c : Dev nD) (w : Fin cfg0.W) : (dats m 0 c).A w = V m c (Pipeline.arrRef spec0 w) := by dsimp only [dats]

/-- The ids are left. -/
theorem dats_after0 (c : Dev nD) (t : Fin cfg0.N) : (dats m 0 c).after 0 t = iblk m c 0 t := by dsimp only [dats]

/-- The ids are found. -/
theorem dats_before0 (c : Dev nD) (t : Fin cfg0.N) (d) : (dats m 0 c).before 0 t d = iblk m c 0 t :=
  ((dats m 0 c).before_in_eq_fetched 0 rfl (fun _ => rfl) (fun _ _ _ => rfl)
    (fun t => by rw [dats_after0]; unfold Dat.blockOf iblk; rw [dats_A]; try rfl) t d).trans
    (by unfold Dat.fetched Dat.blockOf iblk; rw [dats_A]; try rfl)

/-- The body at the call's point, every id naming an anchor. -/
theorem sound (hin : ∀ c t y, k0_chk1 (iblk m c 0 t y)) (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ anything (F := F) c (st0_1 t) ∗ anything (F := F) c (st0_2 t) ∗ anything (F := F) c (st0_3 t) ∗ anything (F := F) c (st0_4 t))
    ⊢ wp frame (wpE (defs₀ (F := F)) Variants.none c none) Set.univ (bodyAt0 t) (fun _ =>
      iprop((dats m 0 c).Φ t.succ ∗ (dats m 0 c).owesAt () t.succ ∗ (dats m 0 c).leavesExact 0 t
        ∗ anything (F := F) c (st0_1 t) ∗ anything (F := F) c (st0_2 t) ∗ anything (F := F) c (st0_3 t) ∗ anything (F := F) c (st0_4 t))) := by
  unfold bodyAt0
  simp only [dats_before0]
  rw [show (dats m 0 c).leavesExact 0 t = owns (c : Thread nD τ) (st0_0 t) fullShare ((dats m 0 c).after 0 t) from rfl, dats_after0,
    show (dats m 0 c).Φ t.succ = (dats m 0 c).Φ t.castSucc from rfl,
    show (dats m 0 c).Φ t.castSucc = Pipeline.ΦD osem spec0 read (V m) c from rfl, between_eq]
  unfold Dat.owesAt Pipeline.owesWithin
  rw [show (dats m 0 c).owed t.castSucc = 0 from rfl, show (dats m 0 c).owed t.succ = 0 from rfl]
  iintro ⟨⟨He, Hg, Hs, Ha⟩, ⟨%Wd, %hWd, Ho⟩, ⟨%d0, H0⟩, H1, H2, H3, H4⟩
  iapply (body c (grid0.coords t) _ _ _ _ (Memref.whole main_arg2) _ _ _ _ _ _ _ (iblk m c 0 t) (hin c t) Wd _ (V m c main_arg2))
  isplitl [H0 H1 H3 H4]
  · isplitl [H0]; · iexact H0
    isplitl [H1]; · iexact H1
    isplitl [H3]; · iexact H3
    iexact H4
  isplitl [Ha]; · iexact Ha
  isplitl [H2]; · iexact H2
  isplitl [Hs]; · iexact Hs
  isplitl [Ho]; · iexact Ho
  iintro ⟨⟨H0, H1, H3, H4⟩, Ha, H2, Hs, ⟨%Wd', Ho⟩⟩
  isplitl [He Hg Hs Ha]
  · isplitl [He]; · iexact He
    isplitl [Hg]; · iexact Hg
    isplitl [Hs]; · iexact Hs
    iexact Ha
  isplitl [Ho]
  · iexists Wd'; isplitr; · ipureintro; exact fun _ _ => Or.inl trivial
    iexact Ho
  isplitl [H0]; · iexact H0
  isplitl [H1]; · iexact H1
  isplitl [H2]; · iexact H2
  isplitl [H3]; · iexact H3
  iexact H4

/-- The call's body is the body proved above. -/
theorem row (t : Fin cfg0.N) : defs₀ (F := F) .tc cfg0.body (cfg0.bodyArgs t (cfg0.slots t)) = bodyAt0 t := by
  unfold defs₀; rw [Defs.onTc_tc]

/-- The call's body does what its proof data say, when every id names an anchor. -/
theorem obligation (hin : ∀ c t y, k0_chk1 (iblk m c 0 t y)) (c : Dev nD) :
    BodyObligation (dats m 0 c) (defs₀ (F := F)) Variants.none () Set.univ forgets := fun t => by
  rw [bigSep_W0, bigSep_W0, row]
  exact triple_restated (sound m hin c t) rfl .rfl fun _ => .rfl

/-- The program is the call alone. -/
theorem enters : Pipeline.HMain (Ix := Unit) (Name := ℕ) (U := Pipeline.UD sig nD τ) (Lvl := ℕ) cfgs 0 defs₀ Variants.none m (main (F := F)) (V m) :=
  Pipeline.hmain_region cfgs 0 defs₀ Variants.none m main fun c => (main_chain c).trans rfl

set_option backward.isDefEq.respectTransparency.types false in
/-- Every weakly fair execution terminates with every array that is no result as launched and every semaphore at zero, when every
    id names an anchor. -/
theorem run [∀ e, Nonempty (Elt F e)] (ρ : Dev nD → PrngReg) (hin : ∀ c t y, k0_chk1 (iblk m c 0 t y)) :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_dma_forget (Q' := _) cfgs (dats m) (0 : Fin 1) launch0 osem defs₀ Variants.none forgets ownSemFacts read read_sub m ρ main
    (hbody := fun c => (obligation m hin c).loose) (hshare := fun c => (dats m 0 c).share_full fun _ => rfl)
    (howed := fun _ _ => rfl) (V := V m) (hmain := enters m) (hA := dats_A m)
    (hin := fun _ => .rfl) (hout := fun _ => .rfl)

/-! ## The claim -/

/-- An id between 0 and 8191 names an anchor. -/
theorem names (v : BitVec 32) (h0 : 0 ≤ v.toInt) (h1 : v.toInt < 8192) : k0_chk1 v := by
  have hv : v.toNat < 8192 := by
    have := BitVec.toInt_eq_toNat_cond v
    split at this <;> omega
  constructor
  · intro a
    match a with
    | ⟨0, _⟩ => show v.toNat + 1 ≤ 8192; omega
    | ⟨1, _⟩ => show 0 + 1 ≤ 1; omega
  · intro a
    match a with
    | ⟨0, _⟩ => show v.toNat + 1 ≤ 8192; omega
    | ⟨1, _⟩ => show 0 + 256 ≤ 256; omega

/-- The precondition says that every id names an anchor. -/
theorem named [Cert.Pre_ids_in_range.Facts] (x : IVec S512x1 32) (d : FVec F S512x256 .f32) (a : FVec F S8192x256 .f32) (n : FVec F S8192x1 .f32)
    (h : Cert.Pre_ids_in_range.fn (F := F) x d a n = fun _ => 1#1) (y : S512x1.Idx) : k0_chk1 (x y) := by
  have : Subsingleton Cert.Pre_ids_in_range.S_.Idx := ⟨fun _ _ => funext fun a => a.elim0⟩
  have e := Host.reduce_andi_all _ _ _ _ (fun a => a.elim0) (congrFun h fun a => a.elim0) y
  obtain ⟨h0, h1⟩ := IntOp.andi_eq_one.1 e
  exact names _ (IntOp.cmpi_sge.1 h0) (IntOp.cmpi_slt.1 h1)

/-- The call runs from any memory whose ids name anchors: it terminates, its four arguments are as they were, and every semaphore
    is back at zero. -/
theorem frame [∀ e, Nonempty (Elt F e)] [Cert.Pre_ids_in_range.Facts] (ρ : Dev nD → PrngReg)
    (h : ∀ c : Dev nD, Cert.Pre_ids_in_range.fn (F := F) (m ((c : Thread nD τ).loc main_arg0)) (m ((c : Thread nD τ).loc main_arg1))
      (m ((c : Thread nD τ).loc main_arg2)) (m ((c : Thread nD τ).loc main_arg3)) = fun _ => 1#1) :
    θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) := by
  refine (θ_run defs _ _).mono (fun r hr => ⟨fun c => ?_, hr.2⟩) (run m ρ fun c t y => named _ _ _ _ (h c) _)
  have input : ∀ w : Fin cfg0.W, (spec0 w).isOut = false →
      r.2.mem ((spec0 w).arr.view.loc (c : Thread nD τ)) = V m c (Pipeline.arrRef spec0 w) := fun w hw => by
    have e := (hr.1 c).1 w
    rw [Pipeline.RDat.ArrAt_in _ w hw] at e
    exact e
  exact ⟨input 0 rfl, input 1 rfl, (hr.1 c).2 main_arg2 (Pipeline.mem_restRefs_of main_arg2 (by decide) (by decide)), input 2 rfl⟩

end Cert.Update.Hand

end
-- ==== Proof.UpdateIdeal.lean ====
/- The update call as printed for reading at `Ideal` is the update call's own text, so it runs where that runs. -/
module

public import proofs.«01_k».proof.Proof.Update
public import proofs.«01_k».proof.Proof.Gen.UpdateIdeal

@[expose] public section

noncomputable section

namespace Cert.UpdateIdeal.Hand

open Cert.UpdateIdeal Cert.UpdateIdeal.Gen
open Idealize.ShloMosaic Idealize.ShloMosaic.TcCoe Idealize.SL.Sem

variable {F : FTy → Type} [FloatOps F]

/-- The two tables of kernel bodies are one table. -/
theorem defs0_same : @UpdateIdeal.defs₀ F _ _ = @Update.defs₀ F _ _ := by
  unfold UpdateIdeal.defs₀ Update.defs₀
  refine congrArg Defs.onTc (funext fun l => funext fun x => ?_)
  match l, x with
  | ⟨0, _⟩, (t, s) => rfl

/-- The two programs are one program. -/
theorem main_same : UpdateIdeal.main (F := F) = Update.main (F := F) := rfl

/-- And so are the two tables of everything a program calls. -/
theorem defs_same : @UpdateIdeal.defs F _ _ = @Update.defs F _ _ := by
  unfold UpdateIdeal.defs Update.defs
  rw [defs0_same]
  rfl

/-- So what is proved of the one, at any reading of its floats, holds of the other. -/
theorem frame [∀ e, Nonempty (Elt F e)] [Cert.Pre_ids_in_range.Facts] (m : (ℓ : Loc nD τ sig) → Buf (Elt F) ℓ) (ρ : Dev nD → PrngReg)
    (h : ∀ c : Dev nD, Cert.Pre_ids_in_range.fn (F := F) (m ((c : Thread nD τ).loc main_arg0)) (m ((c : Thread nD τ).loc main_arg1))
      (m ((c : Thread nD τ).loc main_arg2)) (m ((c : Thread nD τ).loc main_arg3)) = fun _ => 1#1) :
    θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) := by
  rw [defs_same, main_same]
  exact Update.Hand.frame m ρ h

end Cert.UpdateIdeal.Hand

end
-- ==== Proof.lean ====
module

public import proofs.«01_k».proof.Defs
public import proofs.«01_k».proof.Proof.Equation
public import proofs.«01_k».proof.Proof.Gen.Pool.Frame
public import proofs.«01_k».proof.Proof.Gen.PoolIdeal.Frame
public import proofs.«01_k».proof.Proof.Gen.Assign.Frame
public import proofs.«01_k».proof.Proof.Gen.AssignIdeal.Frame
public import proofs.«01_k».proof.Proof.UpdateIdeal
public import proofs.«01_k».proof.Proof.Gen.Pre_ids_in_range

@[expose] public section

noncomputable section

namespace Cert.Proof

open Idealize.ShloMosaic Idealize.SL.Sem

/-- The ideal kernel and the ideal reference end with the same three results and their arguments as they were. -/
theorem same_results : Cert.algebraic_KernelIdeal_ReferenceIdeal (hKernelIdeal := Cert.KernelIdeal.Gen.facts) (hReferenceIdeal := Cert.ReferenceIdeal.Gen.facts) := by
  intro m ρ m' ρ' _ h
  refine ⟨fun c => (fun i => BitVec.ofNat 32 (KernelIdeal.Hand.places m c (i 0)).val : Vec Ideal KernelIdeal.S512 .i32),
    fun c => (fun i => (KernelIdeal.Hand.final m c).1 (i 0) (i 1) : Vec Ideal KernelIdeal.S8192x256 .f32),
    fun c => (fun i => (KernelIdeal.Hand.final m c).2 (i 0) : Vec Ideal KernelIdeal.S8192 .f32),
    (θ_run _ _ _).mono (fun r hr c => ?_) (Equation.kernel_run m ρ), (θ_run _ _ _).mono (fun r hr c => ?_) (Equation.reference_run m' ρ')⟩
  · obtain ⟨⟨h0, h1, h2⟩, ha⟩ := hr.1 c
    exact ⟨h0, h1, h2, ha⟩
  · obtain ⟨⟨h0, h1, h2⟩, ha⟩ := hr.1 c
    obtain ⟨e0, e1, e2⟩ := h c
    rw [Equation.same_places m m' c e0 e1] at h0
    rw [Equation.same_final m m' c e0 e1 e2] at h1 h2
    exact ⟨h0, h1, h2, ha⟩

/-- Every claim of the certificate. -/
theorem claim : Cert.Claim := ⟨Cert.KernelIdeal.Gen.facts, Cert.ReferenceIdeal.Gen.facts, Cert.Pool.Gen.facts, Cert.PoolIdeal.Gen.facts,
  Cert.Assign.Gen.facts, Cert.AssignIdeal.Gen.facts, Cert.Update.Gen.facts, Cert.UpdateIdeal.Gen.facts, Cert.Pre_ids_in_range.Gen.facts,
  fun m ρ _ => (θ_run _ _ _).mono (fun _ h => ⟨fun c => (h.1 c).2, h.2⟩) (Equation.kernel_run m ρ),
  fun m ρ _ => (θ_run _ _ _).mono (fun _ h => ⟨fun c => (h.1 c).2, h.2⟩) (Equation.reference_run m ρ),
  fun m ρ _ => Cert.Pool.Gen.frame m ρ, fun m ρ _ => Cert.PoolIdeal.Gen.frame m ρ,
  fun m ρ _ => Cert.Assign.Gen.frame m ρ, fun m ρ _ => Cert.AssignIdeal.Gen.frame m ρ,
  fun m ρ h => Cert.Update.Hand.frame (F := Bits) m ρ h, fun m ρ h => Cert.UpdateIdeal.Hand.frame (F := Ideal) m ρ h,
  same_results, trivial, trivial, trivial⟩

end Cert.Proof

end
